-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ragged [hPre_ragged : Cert.Pre_ragged.Facts] (m : (ℓ : Loc Cert.KernelIdeal.nD Cert.KernelIdeal.τ Cert.KernelIdeal.sig) → Buf (Elt Ideal) ℓ) : Prop :=
  ∀ c : Dev Cert.KernelIdeal.nD,
    (Cert.Pre_ragged.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ragged [hPre_ragged : Cert.Pre_ragged.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ragged.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_ragged [hKernelIdeal : Cert.KernelIdeal.Facts] [hPre_ragged : Cert.Pre_ragged.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ragged m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_ragged [hReferenceIdeal : Cert.ReferenceIdeal.Facts] [hPre_ragged : Cert.Pre_ragged.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ragged m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_ragged [hKernelIdeal : Cert.KernelIdeal.Facts] [hReferenceIdeal : Cert.ReferenceIdeal.Facts] [hPre_ragged : Cert.Pre_ragged.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ragged m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def holds_KernelIdeal_within_pre_ragged [hKernelIdeal : Cert.KernelIdeal.Facts] [hPre_ragged : Cert.Pre_ragged.Facts] [hPost_within : Cert.Post_within.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ragged m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ (Cert.Post_within.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (r.2.mem ((c.tc : Thread Cert.KernelIdeal.nD Cert.KernelIdeal.τ).loc Cert.KernelIdeal.main_v0))) = (fun _ => 1#1))

def Claim : Prop :=
  ∃ (hKernel : Cert.Kernel.Facts) (hKernelIdeal : Cert.KernelIdeal.Facts) (hReferenceIdeal : Cert.ReferenceIdeal.Facts) (hPre_ragged : Cert.Pre_ragged.Facts) (hPost_within : Cert.Post_within.Facts),
    quiescent_Kernel (hKernel := hKernel)
    ∧ quiescent_KernelIdeal (hKernelIdeal := hKernelIdeal)
    ∧ quiescent_KernelIdeal_pre_ragged (hKernelIdeal := hKernelIdeal) (hPre_ragged := hPre_ragged)
    ∧ quiescent_ReferenceIdeal (hReferenceIdeal := hReferenceIdeal)
    ∧ quiescent_ReferenceIdeal_pre_ragged (hReferenceIdeal := hReferenceIdeal) (hPre_ragged := hPre_ragged)
    ∧ preserves_Kernel_KernelIdeal
    ∧ algebraic_KernelIdeal_ReferenceIdeal_pre_ragged (hKernelIdeal := hKernelIdeal) (hReferenceIdeal := hReferenceIdeal) (hPre_ragged := hPre_ragged)
    ∧ holds_KernelIdeal_within_pre_ragged (hKernelIdeal := hKernelIdeal) (hPre_ragged := hPre_ragged) (hPost_within := hPost_within)
-- ==== Post_within.lean ====
abbrev S32768x1024 : Shape := ⟨2, ![32768, 1024]⟩
abbrev S32768x64 : Shape := ⟨2, ![32768, 64]⟩
abbrev S17 : Shape := ⟨1, ![17]⟩
abbrev S64x1024 : Shape := ⟨2, ![64, 1024]⟩
abbrev S64 : Shape := ⟨1, ![64]⟩
abbrev S_ : Shape := ⟨0, ![]⟩
abbrev S32768 : Shape := ⟨1, ![32768]⟩
abbrev S1x17 : Shape := ⟨2, ![1, 17]⟩
abbrev S32768x1 : Shape := ⟨2, ![32768, 1]⟩
abbrev S32768x17 : Shape := ⟨2, ![32768, 17]⟩
abbrev S1024x64 : Shape := ⟨2, ![1024, 64]⟩
abbrev S1x64 : Shape := ⟨2, ![1, 64]⟩
abbrev S16 : Shape := ⟨1, ![16]⟩
abbrev S1x16 : Shape := ⟨2, ![1, 16]⟩
abbrev S32768x16 : Shape := ⟨2, ![32768, 16]⟩
abbrev S32768x16x1 : Shape := ⟨3, ![32768, 16, 1]⟩
abbrev S32768x1x64 : Shape := ⟨3, ![32768, 1, 64]⟩
abbrev S32768x16x64 : Shape := ⟨3, ![32768, 16, 64]⟩
abbrev S16x64 : Shape := ⟨2, ![16, 64]⟩

class Facts : Prop where
  bcast_S17_S1x17_1 : S17.BroadcastsInDim S1x17 (![1] : Fin 1 → Fin S1x17.rank)
  bcast_S32768_S32768x1_0 : S32768.BroadcastsInDim S32768x1 (![0] : Fin 1 → Fin S32768x1.rank)
  bcast_S1x17_S32768x17_0_1 : S1x17.BroadcastsInDim S32768x17 (![0, 1] : Fin 2 → Fin S32768x17.rank)
  bcast_S32768x1_S32768x17_0_1 : S32768x1.BroadcastsInDim S32768x17 (![0, 1] : Fin 2 → Fin S32768x17.rank)
  natLt_1_32 : 1 < 32
  reducesTo_S32768x17_S32768_d1 : S32768x17.ReducesTo [1] S32768
  h_S_ : 0 < S_.numel
  bcast_S_S32768 : S_.BroadcastsInDim S32768 (![] : Fin 0 → Fin S32768.rank)
  transposes_S64x1024_S1024x64_1_0 : S64x1024.Transposes [1, 0] S1024x64
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  bcast_S16_S1x16_1 : S16.BroadcastsInDim S1x16 (![1] : Fin 1 → Fin S1x16.rank)
  bcast_S32768x1_S32768x16_0_1 : S32768x1.BroadcastsInDim S32768x16 (![0, 1] : Fin 2 → Fin S32768x16.rank)
  bcast_S1x16_S32768x16_0_1 : S1x16.BroadcastsInDim S32768x16 (![0, 1] : Fin 2 → Fin S32768x16.rank)
  bcast_S32768x16_S32768x16x1_0_1 : S32768x16.BroadcastsInDim S32768x16x1 (![0, 1] : Fin 2 → Fin S32768x16x1.rank)
  bcast_S32768x64_S32768x1x64_0_2 : S32768x64.BroadcastsInDim S32768x1x64 (![0, 2] : Fin 2 → Fin S32768x1x64.rank)
  bcast_S32768x16x1_S32768x16x64_0_1_2 : S32768x16x1.BroadcastsInDim S32768x16x64 (![0, 1, 2] : Fin 3 → Fin S32768x16x64.rank)
  bcast_S32768x1x64_S32768x16x64_0_1_2 : S32768x1x64.BroadcastsInDim S32768x16x64 (![0, 1, 2] : Fin 3 → Fin S32768x16x64.rank)
  bcast_S_S32768x16x64 : S_.BroadcastsInDim S32768x16x64 (![] : Fin 0 → Fin S32768x16x64.rank)
  reducesTo_S32768x16x64_S16x64_d0 : S32768x16x64.ReducesTo [0] S16x64
  bcast_S_S16x64 : S_.BroadcastsInDim S16x64 (![] : Fin 0 → Fin S16x64.rank)
  bcast_S_S32768x64 : S_.BroadcastsInDim S32768x64 (![] : Fin 0 → Fin S32768x64.rank)
  reducesTo_S32768x64_S_d0_1 : S32768x64.ReducesTo [0, 1] S_
  reducesTo_S16x64_S_d0_1 : S16x64.ReducesTo [0, 1] S_
  dot_S32768x1024_S1024x64_S32768x64_1_0_0_1_n_n_wf : DotDims.WF S32768x1024 S1024x64 S32768x64 [1] [0] [0] [1] [] []
  gather_S16x64_S32768x1_S32768x64_1_0_n_n_0_1_164_wf : GatherDims.WF S16x64 S32768x1 S32768x64 [1] [0] [] [0] [] 1 ![1, 64]
  scatter_S16x64_S32768x1_S32768x64_1_0_0_1_wf : ScatterDims.WF S16x64 S32768x1 S32768x64 [1] [0] [0] 1

variable [Facts]

def dot_S32768x1024_S1024x64_S32768x64_1_0_0_1_n_n : DotDims S32768x1024 S1024x64 S32768x64 where
  lhsContracting := [1]
  rhsContracting := [0]
  lhsNonContracting := [0]
  rhsNonContracting := [1]
  lhsBatch := []
  rhsBatch := []
  wf := dot_S32768x1024_S1024x64_S32768x64_1_0_0_1_n_n_wf
def gather_S16x64_S32768x1_S32768x64_1_0_n_n_0_1_164 : GatherDims S16x64 S32768x1 S32768x64 where
  offsetDims := [1]
  collapsedSliceDims := [0]
  operandBatchingDims := []
  startIndicesBatchingDims := []
  startIndexMap := [0]
  indexVectorDim := 1
  sliceSizes := ![1, 64]
  wf := gather_S16x64_S32768x1_S32768x64_1_0_n_n_0_1_164_wf
def scatter_S16x64_S32768x1_S32768x64_1_0_0_1 : ScatterDims S16x64 S32768x1 S32768x64 where
  updateWindowDims := [1]
  insertedWindowDims := [0]
  scatterDimsToOperandDims := [0]
  indexVectorDim := 1
  wf := scatter_S16x64_S32768x1_S32768x64_1_0_0_1_wf
def fn_where {F : FTy → Type} [FloatOps F] (arg0 : IVec S32768x16x1 1) (arg1 : FVec F S32768x1x64 .f32) (arg2 : FVec F S_ .f32) : FVec F S32768x16x64 .f32 :=
  let v0 : FVec F S_ .f32 := id arg2
  let v1 : IVec S32768x16x64 1 := broadcastInDim S32768x16x64 ![0, 1, 2] bcast_S32768x16x1_S32768x16x64_0_1_2 arg0
  let v2 : FVec F S32768x16x64 .f32 := broadcastInDim S32768x16x64 ![0, 1, 2] bcast_S32768x1x64_S32768x16x64_0_1_2 arg1
  let v3 : FVec F S32768x16x64 .f32 := broadcastInDim S32768x16x64 ![] bcast_S_S32768x16x64 v0
  let v4 : FVec F S32768x16x64 .f32 := select v1 v2 v3
  v4

def fn_where_0 {F : FTy → Type} [FloatOps F] (arg0 : IVec S32768x64 1) (arg1 : FVec F S_ .f32) (arg2 : FVec F S32768x64 .f32) : FVec F S32768x64 .f32 :=
  let v0 : FVec F S_ .f32 := id arg1
  let v1 : FVec F S32768x64 .f32 := broadcastInDim S32768x64 ![] bcast_S_S32768x64 v0
  let v2 : FVec F S32768x64 .f32 := select arg0 v1 arg2
  v2

def fn_part4 {F : FTy → Type} [FloatOps F] (main_arg5 : FVec F S_ .f32) (main_v38 : FVec F S16x64 .f32) (main_v41 : FVec F S16x64 .f32) (main_v55 : FVec F S32768x64 .f32) (main_v68 : FVec F S_ .f32) (main_v76 : FVec F S32768x64 .f32) : IVec S_ 1 :=
  let main_v77 : FVec F S32768x64 .f32 := Host.exp main_v76
  let main_v78 : FVec F S32768x64 .f32 := mulf main_v55 main_v76
  let main_v79 : FVec F S32768x64 .f32 := subf main_v77 main_v78
  let main_cst_17 : FVec F S_ .f32 := constant S_ .f32 0x00000000#32
  let main_v80 : FVec F S_ .f32 := (fun x v => Host.reduceAdd x v reducesTo_S32768x64_S_d0_1 h_S_) main_v79 main_cst_17
  let main_v81 : FVec F S16x64 .f32 := Host.exp main_v38
  let main_v82 : FVec F S16x64 .f32 := mulf main_v41 main_v38
  let main_v83 : FVec F S16x64 .f32 := subf main_v81 main_v82
  let main_cst_18 : FVec F S_ .f32 := constant S_ .f32 0x00000000#32
  let main_v84 : FVec F S_ .f32 := (fun x v => Host.reduceAdd x v reducesTo_S16x64_S_d0_1 h_S_) main_v83 main_cst_18
  let main_v85 : FVec F S_ .f32 := addf main_v80 main_v84
  let main_v86 : FVec F S_ .f32 := subf main_v85 main_v68
  let main_cst_19 : FVec F S_ .f32 := constant S_ .f32 0x47000000#32
  let main_v87 : FVec F S_ .f32 := Host.divf main_v86 main_cst_19
  let main_v88 : IVec S_ 1 := cmpf .ole main_arg5 main_v87
  let main_cst_20 : FVec F S_ .f32 := constant S_ .f32 0x352BCC77#32
  let main_v89 : FVec F S_ .f32 := addf main_arg5 main_cst_20
  let main_v90 : IVec S_ 1 := cmpf .ole main_v87 main_v89
  let main_v91 : IVec S_ 1 := andi main_v88 main_v90
  main_v91

def fn_part3 {F : FTy → Type} [FloatOps F] (main_arg5 : FVec F S_ .f32) (main_v9 : IVec S32768 32) (main_v14 : FVec F S32768x64 .f32) (main_v38 : FVec F S16x64 .f32) (main_v41 : FVec F S16x64 .f32) (main_v55 : FVec F S32768x64 .f32) (main_v57 : FVec F S32768x64 .f32) : IVec S_ 1 :=
  let main_v58 : FVec F S32768x64 .f32 := Host.log main_v57
  let main_v59 : FVec F S32768x64 .f32 := mulf main_v55 main_v58
  let main_v60 : FVec F S32768x64 .f32 := subf main_v55 main_v59
  let main_cst_12 : FVec F S_ .f32 := constant S_ .f32 0x00000000#32
  let main_v61 : FVec F S_ .f32 := (fun x v => Host.reduceAdd x v reducesTo_S32768x64_S_d0_1 h_S_) main_v60 main_cst_12
  let main_cst_13 : FVec F S_ .f32 := constant S_ .f32 0x322BCC77#32
  let main_v62 : FVec F S16x64 .f32 := broadcastInDim S16x64 ![] bcast_S_S16x64 main_cst_13
  let main_v63 : FVec F S16x64 .f32 := addf main_v41 main_v62
  let main_v64 : FVec F S16x64 .f32 := Host.log main_v63
  let main_v65 : FVec F S16x64 .f32 := mulf main_v41 main_v64
  let main_v66 : FVec F S16x64 .f32 := subf main_v41 main_v65
  let main_cst_14 : FVec F S_ .f32 := constant S_ .f32 0x00000000#32
  let main_v67 : FVec F S_ .f32 := (fun x v => Host.reduceAdd x v reducesTo_S16x64_S_d0_1 h_S_) main_v66 main_cst_14
  let main_v68 : FVec F S_ .f32 := addf main_v61 main_v67
  let main_c_15 : IVec S_ 32 := constantI S_ 32 0#32
  let main_v69 : IVec S32768 32 := broadcastInDim S32768 ![] bcast_S_S32768 main_c_15
  let main_v70 : IVec S32768 1 := cmpi .slt main_v9 main_v69
  let main_c_16 : IVec S_ 32 := constantI S_ 32 16#32
  let main_v71 : IVec S32768 32 := broadcastInDim S32768 ![] bcast_S_S32768 main_c_16
  let main_v72 : IVec S32768 32 := addi main_v9 main_v71
  let main_v73 : IVec S32768 32 := select main_v70 main_v72 main_v9
  let main_v74 : IVec S32768x1 32 := broadcastInDim S32768x1 ![0] bcast_S32768_S32768x1_0 main_v73
  let main_v75 : FVec F S32768x64 .f32 := (fun x i => Host.gather gather_S16x64_S32768x1_S32768x64_1_0_n_n_0_1_164 x i) main_v38 main_v74
  let main_v76 : FVec F S32768x64 .f32 := subf main_v14 main_v75
  fn_part4 (F := F) main_arg5 main_v38 main_v41 main_v55 main_v68 main_v76

def fn_part2 {F : FTy → Type} [FloatOps F] (main_arg1 : FVec F S32768x64 .f32) (main_arg5 : FVec F S_ .f32) (main_v9 : IVec S32768 32) (main_v14 : FVec F S32768x64 .f32) (main_v38 : FVec F S16x64 .f32) (main_v39 : FVec F S16x64 .f32) : IVec S_ 1 :=
  let main_v40 : IVec S32768x1 32 := broadcastInDim S32768x1 ![0] bcast_S32768_S32768x1_0 main_v9
  let main_v41 : FVec F S16x64 .f32 := (fun x i u => Host.scatterAdd scatter_S16x64_S32768x1_S32768x64_1_0_0_1 x i u) main_v39 main_v40 main_arg1
  let main_c_6 : IVec S_ 32 := constantI S_ 32 0#32
  let main_v42 : IVec S32768 32 := broadcastInDim S32768 ![] bcast_S_S32768 main_c_6
  let main_v43 : IVec S32768 1 := cmpi .slt main_v9 main_v42
  let main_c_7 : IVec S_ 32 := constantI S_ 32 16#32
  let main_v44 : IVec S32768 32 := broadcastInDim S32768 ![] bcast_S_S32768 main_c_7
  let main_v45 : IVec S32768 32 := addi main_v9 main_v44
  let main_v46 : IVec S32768 32 := select main_v43 main_v45 main_v9
  let main_v47 : IVec S32768x1 32 := broadcastInDim S32768x1 ![0] bcast_S32768_S32768x1_0 main_v46
  let main_v48 : FVec F S32768x64 .f32 := (fun x i => Host.gather gather_S16x64_S32768x1_S32768x64_1_0_n_n_0_1_164 x i) main_v41 main_v47
  let main_cst_8 : FVec F S_ .f32 := constant S_ .f32 0x00000000#32
  let main_v49 : FVec F S32768x64 .f32 := broadcastInDim S32768x64 ![] bcast_S_S32768x64 main_cst_8
  let main_v50 : IVec S32768x64 1 := cmpf .oeq main_arg1 main_v49
  let main_cst_9 : FVec F S_ .f32 := constant S_ .f32 0x00000000#32
  let main_v51 : FVec F S32768x64 .f32 := broadcastInDim S32768x64 ![] bcast_S_S32768x64 main_cst_9
  let main_v52 : IVec S32768x64 1 := cmpf .oeq main_v48 main_v51
  let main_v53 : IVec S32768x64 1 := andi main_v50 main_v52
  let main_v54 : FVec F S32768x64 .f32 := Host.divf main_arg1 main_v48
  let main_cst_10 : FVec F S_ .f32 := constant S_ .f32 0x3F800000#32
  let main_v55 : FVec F S32768x64 .f32 := fn_where_0 (F := F) main_v53 main_cst_10 main_v54
  let main_cst_11 : FVec F S_ .f32 := constant S_ .f32 0x322BCC77#32
  let main_v56 : FVec F S32768x64 .f32 := broadcastInDim S32768x64 ![] bcast_S_S32768x64 main_cst_11
  let main_v57 : FVec F S32768x64 .f32 := addf main_v55 main_v56
  fn_part3 (F := F) main_arg5 main_v9 main_v14 main_v38 main_v41 main_v55 main_v57

def fn_part1 {F : FTy → Type} [FloatOps F] (main_arg1 : FVec F S32768x64 .f32) (main_arg5 : FVec F S_ .f32) (main_v9 : IVec S32768 32) (main_v14 : FVec F S32768x64 .f32) (main_v21 : IVec S32768x16x1 1) : IVec S_ 1 :=
  let main_v22 : FVec F S32768x1x64 .f32 := broadcastInDim S32768x1x64 ![0, 2] bcast_S32768x64_S32768x1x64_0_2 main_v14
  let main_cst : FVec F S_ .f32 := constant S_ .f32 0xFF800000#32
  let main_v23 : FVec F S32768x16x64 .f32 := fn_where (F := F) main_v21 main_v22 main_cst
  let main_cst_1 : FVec F S_ .f32 := constant S_ .f32 0xFF800000#32
  let main_v24 : FVec F S16x64 .f32 := (fun x v => Host.reduce FloatOps.maximumf x v reducesTo_S32768x16x64_S16x64_d0 h_S_) main_v23 main_cst_1
  let main_c_2 : IVec S_ 32 := constantI S_ 32 0#32
  let main_v25 : IVec S32768 32 := broadcastInDim S32768 ![] bcast_S_S32768 main_c_2
  let main_v26 : IVec S32768 1 := cmpi .slt main_v9 main_v25
  let main_c_3 : IVec S_ 32 := constantI S_ 32 16#32
  let main_v27 : IVec S32768 32 := broadcastInDim S32768 ![] bcast_S_S32768 main_c_3
  let main_v28 : IVec S32768 32 := addi main_v9 main_v27
  let main_v29 : IVec S32768 32 := select main_v26 main_v28 main_v9
  let main_v30 : IVec S32768x1 32 := broadcastInDim S32768x1 ![0] bcast_S32768_S32768x1_0 main_v29
  let main_v31 : FVec F S32768x64 .f32 := (fun x i => Host.gather gather_S16x64_S32768x1_S32768x64_1_0_n_n_0_1_164 x i) main_v24 main_v30
  let main_v32 : FVec F S32768x64 .f32 := subf main_v14 main_v31
  let main_v33 : FVec F S32768x64 .f32 := Host.exp main_v32
  let main_cst_4 : FVec F S_ .f32 := constant S_ .f32 0x00000000#32
  let main_v34 : FVec F S16x64 .f32 := broadcastInDim S16x64 ![] bcast_S_S16x64 main_cst_4
  let main_v35 : IVec S32768x1 32 := broadcastInDim S32768x1 ![0] bcast_S32768_S32768x1_0 main_v9
  let main_v36 : FVec F S16x64 .f32 := (fun x i u => Host.scatterAdd scatter_S16x64_S32768x1_S32768x64_1_0_0_1 x i u) main_v34 main_v35 main_v33
  let main_v37 : FVec F S16x64 .f32 := Host.log main_v36
  let main_v38 : FVec F S16x64 .f32 := addf main_v24 main_v37
  let main_cst_5 : FVec F S_ .f32 := constant S_ .f32 0x00000000#32
  let main_v39 : FVec F S16x64 .f32 := broadcastInDim S16x64 ![] bcast_S_S16x64 main_cst_5
  fn_part2 (F := F) main_arg1 main_arg5 main_v9 main_v14 main_v38 main_v39

def fn {F : FTy → Type} [FloatOps F] (main_arg0 : FVec F S32768x1024 .f32) (main_arg1 : FVec F S32768x64 .f32) (main_arg2 : IVec S17 32) (main_arg3 : FVec F S64x1024 .f32) (main_arg4 : FVec F S64 .f32) (main_arg5 : FVec F S_ .f32) : IVec S_ 1 :=
  let main_v0 : IVec S32768 32 := iotaInDim S32768 32 0
  let main_v1 : IVec S1x17 32 := broadcastInDim S1x17 ![1] bcast_S17_S1x17_1 main_arg2
  let main_v2 : IVec S32768x1 32 := broadcastInDim S32768x1 ![0] bcast_S32768_S32768x1_0 main_v0
  let main_v3 : IVec S32768x17 32 := broadcastInDim S32768x17 ![0, 1] bcast_S1x17_S32768x17_0_1 main_v1
  let main_v4 : IVec S32768x17 32 := broadcastInDim S32768x17 ![0, 1] bcast_S32768x1_S32768x17_0_1 main_v2
  let main_v5 : IVec S32768x17 1 := cmpi .sle main_v3 main_v4
  let main_v6 : IVec S32768x17 32 := (extui 32 · natLt_1_32) main_v5
  let main_c : IVec S_ 32 := constantI S_ 32 0#32
  let main_v7 : IVec S32768 32 := (fun x v => Host.reduce IntOp.addi x v reducesTo_S32768x17_S32768_d1 h_S_) main_v6 main_c
  let main_c_0 : IVec S_ 32 := constantI S_ 32 1#32
  let main_v8 : IVec S32768 32 := broadcastInDim S32768 ![] bcast_S_S32768 main_c_0
  let main_v9 : IVec S32768 32 := subi main_v7 main_v8
  let main_v10 : FVec F S1024x64 .f32 := (transpose S1024x64 [1, 0] · transposes_S64x1024_S1024x64_1_0) main_arg3
  let main_v11 : FVec F S32768x64 .f32 := (fun l r => Host.dotGeneral dot_S32768x1024_S1024x64_S32768x64_1_0_0_1_n_n none l r) main_arg0 main_v10
  let main_v12 : FVec F S1x64 .f32 := broadcastInDim S1x64 ![1] bcast_S64_S1x64_1 main_arg4
  let main_v13 : FVec F S32768x64 .f32 := broadcastInDim S32768x64 ![0, 1] bcast_S1x64_S32768x64_0_1 main_v12
  let main_v14 : FVec F S32768x64 .f32 := addf main_v11 main_v13
  let main_v15 : IVec S32768x1 32 := broadcastInDim S32768x1 ![0] bcast_S32768_S32768x1_0 main_v9
  let main_v16 : IVec S16 32 := iotaInDim S16 32 0
  let main_v17 : IVec S1x16 32 := broadcastInDim S1x16 ![1] bcast_S16_S1x16_1 main_v16
  let main_v18 : IVec S32768x16 32 := broadcastInDim S32768x16 ![0, 1] bcast_S32768x1_S32768x16_0_1 main_v15
  let main_v19 : IVec S32768x16 32 := broadcastInDim S32768x16 ![0, 1] bcast_S1x16_S32768x16_0_1 main_v17
  let main_v20 : IVec S32768x16 1 := cmpi .eq main_v18 main_v19
  let main_v21 : IVec S32768x16x1 1 := broadcastInDim S32768x16x1 ![0, 1] bcast_S32768x16_S32768x16x1_0_1 main_v20
  fn_part1 (F := F) main_arg1 main_arg5 main_v9 main_v14 main_v21
-- ==== Pre_ragged.lean ====
abbrev S32768x1024 : Shape := ⟨2, ![32768, 1024]⟩
abbrev S32768x64 : Shape := ⟨2, ![32768, 64]⟩
abbrev S17 : Shape := ⟨1, ![17]⟩
abbrev S64x1024 : Shape := ⟨2, ![64, 1024]⟩
abbrev S64 : Shape := ⟨1, ![64]⟩
abbrev S_ : Shape := ⟨0, ![]⟩
abbrev S1 : Shape := ⟨1, ![1]⟩
abbrev S16 : Shape := ⟨1, ![16]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S32768x64 : S_.BroadcastsInDim S32768x64 (![] : Fin 0 → Fin S32768x64.rank)
  reducesTo_S32768x64_S_d0_1 : S32768x64.ReducesTo [0, 1] S_
  bcast_S_S64x1024 : S_.BroadcastsInDim S64x1024 (![] : Fin 0 → Fin S64x1024.rank)
  reducesTo_S64x1024_S_d0_1 : S64x1024.ReducesTo [0, 1] S_
  bcast_S_S64 : S_.BroadcastsInDim S64 (![] : Fin 0 → Fin S64.rank)
  reducesTo_S64_S_d0 : S64.ReducesTo [0] S_
  slices_S17_S1_0 : S17.Slices ![0] S1
  shapeCasts_S1_S_ : S1.ShapeCasts S_
  slices_S17_S1_16 : S17.Slices ![16] S1
  slices_S17_S16_0 : S17.Slices ![0] S16
  slices_S17_S16_1 : S17.Slices ![1] S16
  reducesTo_S16_S_d0 : S16.ReducesTo [0] S_

variable [Facts]

def fn_part2 {F : FTy → Type} [FloatOps F] (main_arg2 : IVec S17 32) (main_v30 : IVec S_ 1) (main_v33 : IVec S_ 1) : IVec S_ 1 :=
  let main_v34 : IVec S_ 1 := andi main_v30 main_v33
  let main_v35 : IVec S16 32 := (extractStridedSlice S16 ![0] · slices_S17_S16_0) main_arg2
  let main_v36 : IVec S16 32 := (extractStridedSlice S16 ![1] · slices_S17_S16_1) main_arg2
  let main_v37 : IVec S16 1 := cmpi .slt main_v35 main_v36
  let main_c_12 : IVec S_ 1 := constantI S_ 1 1#1
  let main_v38 : IVec S_ 1 := (fun x v => Host.reduce IntOp.andi x v reducesTo_S16_S_d0 h_S_) main_v37 main_c_12
  let main_v39 : IVec S_ 1 := andi main_v34 main_v38
  main_v39

def fn_part1 {F : FTy → Type} [FloatOps F] (main_arg2 : IVec S17 32) (main_arg3 : FVec F S64x1024 .f32) (main_arg4 : FVec F S64 .f32) (main_v12 : IVec S_ 1) (main_v14 : IVec S64x1024 1) (main_v15 : FVec F S64x1024 .f32) : IVec S_ 1 :=
  let main_v16 : IVec S64x1024 1 := cmpf .olt main_arg3 main_v15
  let main_v17 : IVec S64x1024 1 := andi main_v14 main_v16
  let main_c_6 : IVec S_ 1 := constantI S_ 1 1#1
  let main_v18 : IVec S_ 1 := (fun x v => Host.reduce IntOp.andi x v reducesTo_S64x1024_S_d0_1 h_S_) main_v17 main_c_6
  let main_v19 : IVec S_ 1 := andi main_v12 main_v18
  let main_cst_7 : FVec F S_ .f32 := constant S_ .f32 0xFF800000#32
  let main_v20 : FVec F S64 .f32 := broadcastInDim S64 ![] bcast_S_S64 main_cst_7
  let main_v21 : IVec S64 1 := cmpf .ogt main_arg4 main_v20
  let main_cst_8 : FVec F S_ .f32 := constant S_ .f32 0x7F800000#32
  let main_v22 : FVec F S64 .f32 := broadcastInDim S64 ![] bcast_S_S64 main_cst_8
  let main_v23 : IVec S64 1 := cmpf .olt main_arg4 main_v22
  let main_v24 : IVec S64 1 := andi main_v21 main_v23
  let main_c_9 : IVec S_ 1 := constantI S_ 1 1#1
  let main_v25 : IVec S_ 1 := (fun x v => Host.reduce IntOp.andi x v reducesTo_S64_S_d0 h_S_) main_v24 main_c_9
  let main_v26 : IVec S_ 1 := andi main_v19 main_v25
  let main_v27 : IVec S1 32 := (extractStridedSlice S1 ![0] · slices_S17_S1_0) main_arg2
  let main_v28 : IVec S_ 32 := shapeCast S_ main_v27 shapeCasts_S1_S_
  let main_c_10 : IVec S_ 32 := constantI S_ 32 0#32
  let main_v29 : IVec S_ 1 := cmpi .eq main_v28 main_c_10
  let main_v30 : IVec S_ 1 := andi main_v26 main_v29
  let main_v31 : IVec S1 32 := (extractStridedSlice S1 ![16] · slices_S17_S1_16) main_arg2
  let main_v32 : IVec S_ 32 := shapeCast S_ main_v31 shapeCasts_S1_S_
  let main_c_11 : IVec S_ 32 := constantI S_ 32 32768#32
  let main_v33 : IVec S_ 1 := cmpi .eq main_v32 main_c_11
  fn_part2 (F := F) main_arg2 main_v30 main_v33

def fn {F : FTy → Type} [FloatOps F] (main_arg0 : FVec F S32768x1024 .f32) (main_arg1 : FVec F S32768x64 .f32) (main_arg2 : IVec S17 32) (main_arg3 : FVec F S64x1024 .f32) (main_arg4 : FVec F S64 .f32) : IVec S_ 1 :=
  let main_cst : FVec F S_ .f32 := constant S_ .f32 0xFF800000#32
  let main_v0 : FVec F S32768x1024 .f32 := broadcastInDim S32768x1024 ![] bcast_S_S32768x1024 main_cst
  let main_v1 : IVec S32768x1024 1 := cmpf .ogt main_arg0 main_v0
  let main_cst_0 : FVec F S_ .f32 := constant S_ .f32 0x7F800000#32
  let main_v2 : FVec F S32768x1024 .f32 := broadcastInDim S32768x1024 ![] bcast_S_S32768x1024 main_cst_0
  let main_v3 : IVec S32768x1024 1 := cmpf .olt main_arg0 main_v2
  let main_v4 : IVec S32768x1024 1 := andi main_v1 main_v3
  let main_c : IVec S_ 1 := constantI S_ 1 1#1
  let main_v5 : IVec S_ 1 := (fun x v => Host.reduce IntOp.andi x v reducesTo_S32768x1024_S_d0_1 h_S_) main_v4 main_c
  let main_cst_1 : FVec F S_ .f32 := constant S_ .f32 0x00000000#32
  let main_v6 : FVec F S32768x64 .f32 := broadcastInDim S32768x64 ![] bcast_S_S32768x64 main_cst_1
  let main_v7 : IVec S32768x64 1 := cmpf .oge main_arg1 main_v6
  let main_cst_2 : FVec F S_ .f32 := constant S_ .f32 0x7F800000#32
  let main_v8 : FVec F S32768x64 .f32 := broadcastInDim S32768x64 ![] bcast_S_S32768x64 main_cst_2
  let main_v9 : IVec S32768x64 1 := cmpf .olt main_arg1 main_v8
  let main_v10 : IVec S32768x64 1 := andi main_v7 main_v9
  let main_c_3 : IVec S_ 1 := constantI S_ 1 1#1
  let main_v11 : IVec S_ 1 := (fun x v => Host.reduce IntOp.andi x v reducesTo_S32768x64_S_d0_1 h_S_) main_v10 main_c_3
  let main_v12 : IVec S_ 1 := andi main_v5 main_v11
  let main_cst_4 : FVec F S_ .f32 := constant S_ .f32 0xFF800000#32
  let main_v13 : FVec F S64x1024 .f32 := broadcastInDim S64x1024 ![] bcast_S_S64x1024 main_cst_4
  let main_v14 : IVec S64x1024 1 := cmpf .ogt main_arg3 main_v13
  let main_cst_5 : FVec F S_ .f32 := constant S_ .f32 0x7F800000#32
  let main_v15 : FVec F S64x1024 .f32 := broadcastInDim S64x1024 ![] bcast_S_S64x1024 main_cst_5
  fn_part1 (F := F) main_arg2 main_arg3 main_arg4 main_v12 main_v14 main_v15
-- ==== Kernel.lean ====
abbrev S32768x1024 : Shape := ⟨2, ![32768, 1024]⟩
abbrev S32768x64 : Shape := ⟨2, ![32768, 64]⟩
abbrev S17 : Shape := ⟨1, ![17]⟩
abbrev S64x1024 : Shape := ⟨2, ![64, 1024]⟩
abbrev S64 : Shape := ⟨1, ![64]⟩
abbrev S1024x64 : Shape := ⟨2, ![1024, 64]⟩
abbrev S1x64 : Shape := ⟨2, ![1, 64]⟩
abbrev S1x1 : Shape := ⟨2, ![1, 1]⟩
abbrev S_ : Shape := ⟨0, ![]⟩
abbrev S2048x1024 : Shape := ⟨2, ![2048, 1024]⟩
abbrev S2048x64 : Shape := ⟨2, ![2048, 64]⟩
abbrev S16x384 : Shape := ⟨2, ![16, 384]⟩
abbrev S2048x384 : Shape := ⟨2, ![2048, 384]⟩
abbrev S1x2048 : Shape := ⟨2, ![1, 2048]⟩
abbrev S1 : Shape := ⟨1, ![1]⟩
abbrev S16x2048 : Shape := ⟨2, ![16, 2048]⟩
abbrev S16x64 : Shape := ⟨2, ![16, 64]⟩
abbrev S16x1 : Shape := ⟨2, ![16, 1]⟩
abbrev S1x16x64 : Shape := ⟨3, ![1, 16, 64]⟩
abbrev S1x1x1 : Shape := ⟨3, ![1, 1, 1]⟩

abbrev nBuf : Space → Nat
  | .hbm => 8
  | .vmem => 8
  | .smem => 1
  | _ => 0

abbrev bufTy : (tb : Table) → Fin (tcTables nBuf tb) → BufTy
  | .hbm, ⟨0, _⟩ => ⟨S32768x1024, .f32⟩
  | .hbm, ⟨1, _⟩ => ⟨S32768x64, .f32⟩
  | .hbm, ⟨2, _⟩ => ⟨S64x1024, .f32⟩
  | .hbm, ⟨3, _⟩ => ⟨S64, .f32⟩
  | .hbm, ⟨4, _⟩ => ⟨S1024x64, .f32⟩
  | .hbm, ⟨5, _⟩ => ⟨S1x64, .f32⟩
  | .hbm, ⟨6, _⟩ => ⟨S1x1, .f32⟩
  | .hbm, ⟨7, _⟩ => ⟨S_, .f32⟩
  | .local _ .vmem, ⟨0, _⟩ => ⟨S2048x1024, .f32⟩
  | .local _ .vmem, ⟨1, _⟩ => ⟨S2048x1024, .f32⟩
  | .local _ .vmem, ⟨2, _⟩ => ⟨S2048x64, .f32⟩
  | .local _ .vmem, ⟨3, _⟩ => ⟨S2048x64, .f32⟩
  | .local _ .vmem, ⟨4, _⟩ => ⟨S1024x64, .f32⟩
  | .local _ .vmem, ⟨5, _⟩ => ⟨S1x64, .f32⟩
  | .local _ .vmem, ⟨6, _⟩ => ⟨S1x1, .f32⟩
  | .local _ .vmem, ⟨7, _⟩ => ⟨S16x384, .f32⟩
  | .local _ .smem, ⟨0, _⟩ => ⟨S17, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_cond3 (i : grid0.Coords) : BitVec 1 :=
  let arg0 : BitVec 32 := BitVec.ofNat 32 (i 0).val
  let c15_i32 : BitVec 32 := 15#32
  let v141 : BitVec 1 := Scalar.cmpi .eq arg0 c15_i32
  let v142 : BitVec 32 := Scalar.extui v141
  let c0_i32_44 : BitVec 32 := 0#32
  let v143 : BitVec 1 := Scalar.cmpi .ne v142 c0_i32_44
  v143

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S32768x1024 : Shape := ⟨2, ![32768, 1024]⟩
abbrev S32768x64 : Shape := ⟨2, ![32768, 64]⟩
abbrev S17 : Shape := ⟨1, ![17]⟩
abbrev S64x1024 : Shape := ⟨2, ![64, 1024]⟩
abbrev S64 : Shape := ⟨1, ![64]⟩
abbrev S32768 : Shape := ⟨1, ![32768]⟩
abbrev S1x17 : Shape := ⟨2, ![1, 17]⟩
abbrev S32768x1 : Shape := ⟨2, ![32768, 1]⟩
abbrev S32768x17 : Shape := ⟨2, ![32768, 17]⟩
abbrev S_ : Shape := ⟨0, ![]⟩
abbrev S1024x64 : Shape := ⟨2, ![1024, 64]⟩
abbrev S1x64 : Shape := ⟨2, ![1, 64]⟩
abbrev S16 : Shape := ⟨1, ![16]⟩
abbrev S1x16 : Shape := ⟨2, ![1, 16]⟩
abbrev S32768x16 : Shape := ⟨2, ![32768, 16]⟩
abbrev S32768x16x1 : Shape := ⟨3, ![32768, 16, 1]⟩
abbrev S32768x1x64 : Shape := ⟨3, ![32768, 1, 64]⟩
abbrev S32768x16x64 : Shape := ⟨3, ![32768, 16, 64]⟩
abbrev S16x64 : Shape := ⟨2, ![16, 64]⟩

abbrev nBuf : Space → Nat
  | .hbm => 118
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x64, .f32⟩
  | .hbm, ⟨2, _⟩ => ⟨S17, .i32⟩
  | .hbm, ⟨3, _⟩ => ⟨S64x1024, .f32⟩
  | .hbm, ⟨4, _⟩ => ⟨S64, .f32⟩
  | .hbm, ⟨5, _⟩ => ⟨S32768, .i32⟩
  | .hbm, ⟨6, _⟩ => ⟨S1x17, .i32⟩
  | .hbm, ⟨7, _⟩ => ⟨S32768x1, .i32⟩
  | .hbm, ⟨8, _⟩ => ⟨S32768x17, .i32⟩
  | .hbm, ⟨9, _⟩ => ⟨S32768x17, .i32⟩
  | .hbm, ⟨10, _⟩ => ⟨S32768x17, .i1⟩
  | .hbm, ⟨11, _⟩ => ⟨S32768x17, .i32⟩
  | .hbm, ⟨12, _⟩ => ⟨S_, .i32⟩
  | .hbm, ⟨13, _⟩ => ⟨S32768, .i32⟩
  | .hbm, ⟨14, _⟩ => ⟨S_, .i32⟩
  | .hbm, ⟨15, _⟩ => ⟨S32768, .i32⟩
  | .hbm, ⟨16, _⟩ => ⟨S32768, .i32⟩
  | .hbm, ⟨17, _⟩ => ⟨S1024x64, .f32⟩
  | .hbm, ⟨18, _⟩ => ⟨S32768x64, .f32⟩
  | .hbm, ⟨19, _⟩ => ⟨S1x64, .f32⟩
  | .hbm, ⟨20, _⟩ => ⟨S32768x64, .f32⟩
  | .hbm, ⟨21, _⟩ => ⟨S32768x64, .f32⟩
  | .hbm, ⟨22, _⟩ => ⟨S32768x1, .i32⟩
  | .hbm, ⟨23, _⟩ => ⟨S16, .i32⟩
  | .hbm, ⟨24, _⟩ => ⟨S1x16, .i32⟩
  | .hbm, ⟨25, _⟩ => ⟨S32768x16, .i32⟩
  | .hbm, ⟨26, _⟩ => ⟨S32768x16, .i32⟩
  | .hbm, ⟨27, _⟩ => ⟨S32768x16, .i1⟩
  | .hbm, ⟨28, _⟩ => ⟨S32768x16x1, .i1⟩
  | .hbm, ⟨29, _⟩ => ⟨S32768x1x64, .f32⟩
  | .hbm, ⟨30, _⟩ => ⟨S_, .f32⟩
  | .hbm, ⟨31, _⟩ => ⟨S_, .f32⟩
  | .hbm, ⟨32, _⟩ => ⟨S32768x16x64, .i1⟩
  | .hbm, ⟨33, _⟩ => ⟨S32768x16x64, .f32⟩
  | .hbm, ⟨34, _⟩ => ⟨S32768x16x64, .f32⟩
  | .hbm, ⟨35, _⟩ => ⟨S32768x16x64, .f32⟩
  | .hbm, ⟨36, _⟩ => ⟨S_, .f32⟩
  | .hbm, ⟨37, _⟩ => ⟨S16x64, .f32⟩
  | .hbm, ⟨38, _⟩ => ⟨S_, .i32⟩
  | .hbm, ⟨39, _⟩ => ⟨S32768, .i32⟩
  | .hbm, ⟨40, _⟩ => ⟨S32768, .i1⟩
  | .hbm, ⟨41, _⟩ => ⟨S_, .i32⟩
  | .hbm, ⟨42, _⟩ => ⟨S32768, .i32⟩
  | .hbm, ⟨43, _⟩ => ⟨S32768, .i32⟩
  | .hbm, ⟨44, _⟩ => ⟨S32768, .i32⟩
  | .hbm, ⟨45, _⟩ => ⟨S32768x1, .i32⟩
  | .hbm, ⟨46, _⟩ => ⟨S32768x64, .f32⟩
  | .hbm, ⟨47, _⟩ => ⟨S32768x64, .f32⟩
  | .hbm, ⟨48, _⟩ => ⟨S32768x64, .f32⟩
  | .hbm, ⟨49, _⟩ => ⟨S_, .f32⟩
  | .hbm, ⟨50, _⟩ => ⟨S16x64, .f32⟩
  | .hbm, ⟨51, _⟩ => ⟨S32768x1, .i32⟩
  | .hbm, ⟨52, _⟩ => ⟨S16x64, .f32⟩
  | .hbm, ⟨53, _⟩ => ⟨S16x64, .f32⟩
  | .hbm, ⟨54, _⟩ => ⟨S16x64, .f32⟩
  | .hbm, ⟨55, _⟩ => ⟨S_, .f32⟩
  | .hbm, ⟨56, _⟩ => ⟨S16x64, .f32⟩
  | .hbm, ⟨57, _⟩ => ⟨S32768x1, .i32⟩
  | .hbm, ⟨58, _⟩ => ⟨S16x64, .f32⟩
  | .hbm, ⟨59, _⟩ => ⟨S_, .i32⟩
  | .hbm, ⟨60, _⟩ => ⟨S32768, .i32⟩
  | .hbm, ⟨61, _⟩ => ⟨S32768, .i1⟩
  | .hbm, ⟨62, _⟩ => ⟨S_, .i32⟩
  | .hbm, ⟨63, _⟩ => ⟨S32768, .i32⟩
  | .hbm, ⟨64, _⟩ => ⟨S32768, .i32⟩
  | .hbm, ⟨65, _⟩ => ⟨S32768, .i32⟩
  | .hbm, ⟨66, _⟩ => ⟨S32768x1, .i32⟩
  | .hbm, ⟨67, _⟩ => ⟨S32768x64, .f32⟩
  | .hbm, ⟨68, _⟩ => ⟨S_, .f32⟩
  | .hbm, ⟨69, _⟩ => ⟨S32768x64, .f32⟩
  | .hbm, ⟨70, _⟩ => ⟨S32768x64, .i1⟩
  | .hbm, ⟨71, _⟩ => ⟨S_, .f32⟩
  | .hbm, ⟨72, _⟩ => ⟨S32768x64, .f32⟩
  | .hbm, ⟨73, _⟩ => ⟨S32768x64, .i1⟩
  | .hbm, ⟨74, _⟩ => ⟨S32768x64, .i1⟩
  | .hbm, ⟨75, _⟩ => ⟨S32768x64, .f32⟩
  | .hbm, ⟨76, _⟩ => ⟨S_, .f32⟩
  | .hbm, ⟨77, _⟩ => ⟨S_, .f32⟩
  | .hbm, ⟨78, _⟩ => ⟨S32768x64, .f32⟩
  | .hbm, ⟨79, _⟩ => ⟨S32768x64, .f32⟩
  | .hbm, ⟨80, _⟩ => ⟨S32768x64, .f32⟩
  | .hbm, ⟨81, _⟩ => ⟨S32768x64, .f32⟩
  | .hbm, ⟨82, _⟩ => ⟨S32768x64, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S16x64, .f32⟩
  | .hbm, ⟨87, _⟩ => ⟨S16x64, .f32⟩
  | .hbm, ⟨88, _⟩ => ⟨S16x64, .f32⟩
  | .hbm, ⟨89, _⟩ => ⟨S16x64, .f32⟩
  | .hbm, ⟨90, _⟩ => ⟨S16x64, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .i32⟩
  | .hbm, ⟨95, _⟩ => ⟨S32768, .i32⟩
  | .hbm, ⟨96, _⟩ => ⟨S32768, .i1⟩
  | .hbm, ⟨97, _⟩ => ⟨S_, .i32⟩
  | .hbm, ⟨98, _⟩ => ⟨S32768, .i32⟩
  | .hbm, ⟨99, _⟩ => ⟨S32768, .i32⟩
  | .hbm, ⟨100, _⟩ => ⟨S32768, .i32⟩
  | .hbm, ⟨101, _⟩ => ⟨S32768x1, .i32⟩
  | .hbm, ⟨102, _⟩ => ⟨S32768x64, .f32⟩
  | .hbm, ⟨103, _⟩ => ⟨S32768x64, .f32⟩
  | .hbm, ⟨104, _⟩ => ⟨S32768x64, .f32⟩
  | .hbm, ⟨105, _⟩ => ⟨S32768x64, .f32⟩
  | .hbm, ⟨106, _⟩ => ⟨S32768x64, .f32⟩
  | .hbm, ⟨107, _⟩ => ⟨S_, .f32⟩
  | .hbm, ⟨108, _⟩ => ⟨S_, .f32⟩
  | .hbm, ⟨109, _⟩ => ⟨S16x64, .f32⟩
  | .hbm, ⟨110, _⟩ => ⟨S16x64, .f32⟩
  | .hbm, ⟨111, _⟩ => ⟨S16x64, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_v23 : Ref sig .tc := ⟨.hbm, 35, rfl⟩
abbrev main_cst_1 : Ref sig .tc := ⟨.hbm, 36, rfl⟩
abbrev main_v24 : Ref sig .tc := ⟨.hbm, 37, rfl⟩
abbrev main_c_2 : Ref sig .tc := ⟨.hbm, 38, rfl⟩
abbrev main_v25 : Ref sig .tc := ⟨.hbm, 39, rfl⟩
abbrev main_v26 : Ref sig .tc := ⟨.hbm, 40, rfl⟩
abbrev main_c_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_6 : Ref sig .tc := ⟨.hbm, 59, rfl⟩
abbrev main_v42 : Ref sig .tc := ⟨.hbm, 60, rfl⟩
abbrev main_v43 : Ref sig .tc := ⟨.hbm, 61, rfl⟩
abbrev main_c_7 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_10 : Ref sig .tc := ⟨.hbm, 76, rfl⟩
abbrev main_call1_v0 : Ref sig .tc := ⟨.hbm, 77, rfl⟩
abbrev main_call1_v1 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_cst_12 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_13 : Ref sig .tc := ⟨.hbm, 91, rfl⟩
abbrev main_v65 : Ref sig .tc := ⟨.hbm, 92, rfl⟩
abbrev main_v66 : Ref sig .tc := ⟨.hbm, 93, rfl⟩
abbrev main_c_14 : Ref sig .tc := ⟨.hbm, 94, rfl⟩
abbrev main_v67 : Ref sig .tc := ⟨.hbm, 95, rfl⟩
abbrev main_v68 : Ref sig .tc := ⟨.hbm, 96, rfl⟩
abbrev main_c_15 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_16 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_17 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_18 : Ref sig .tc := ⟨.hbm, 116, rfl⟩
abbrev main_v85 : Ref sig .tc := ⟨.hbm, 117, rfl⟩

abbrev nD : Nat := 1
abbrev τ : Topo := Topo.v7x

variable {F : FTy → Type} [FloatOps F]
-- ==== Proof.Pieces.lean ====
/-
  What one run of the kernel's body leaves: the accumulator's contents (and, at the last point, the output's), as the
  skeleton's payloads over the blocks the windows hold and the boundary words.
-/
module

public import proofs.«01_k».proof.Proof.Gen.KernelIdeal.Frame
public import Idealize.ShloMosaic.Lib.Pipeline.Value
public import Idealize.ShloMosaic.Lib.ValueIdxCore
public import Idealize.ShloMosaic.Lib.Tactic

@[expose] public section

noncomputable section

open Idealize.ShloMosaic Idealize.ShloMosaic.TcCoe Idealize.SL.Sem

namespace Cert.KernelIdeal.Value

open Cert.KernelIdeal Cert.KernelIdeal.Gen

open Idealize.ShloMosaic.ValueIdx

variable {F : FTy → Type} [FloatOps F]

theorem hz : (![0, 0] : Fin 2 → Nat) = fun _ => 0 := funext fun a => by fin_cases a <;> rfl

/-- The boundary words, as the table holds them. -/
def cuw (c : Dev nD) (xt0 : TbBuf0 (F := F) c tbM0_0) (k : Fin 17) : BitVec 32 := View.read (Elt F) (View.whole main_arg2) xt0 (ix1 k)

/-- Word `k` of the table, as one load of it names it. -/
theorem cuw_ld (c : Dev nD) (xt0 : TbBuf0 (F := F) c tbM0_0) (k : Fin 17) (inb) (h) :
    View.ld (View.read (Elt F) (View.whole main_arg2) xt0) (Rect.unit (s := S17) ![k.val] ![1] inb) (Shape.Idx.first h) = cuw c xt0 k := by
  unfold cuw View.ld
  congr 1
  funext a
  apply Fin.ext
  match a with
  | ⟨0, _⟩ => rfl

/-- The segment numbers of the rows of one block. -/
def segs (i : grid0.Coords) (cu : Fin 17 → BitVec 32) : IVec S1x2048 32 :=
  k0_pay17 (F := F) (k0_pay14 i) (k0_pay16 (F := F) (k0_pay14 i) (k0_pay15 (F := F) i (cu 1) (cu 2)) (cu 3) (cu 4) (cu 5) (cu 6) (cu 7) (cu 8))
    (cu 9) (cu 10) (cu 11) (cu 12) (cu 13) (cu 14)

/-- One block's contribution to the accumulator. -/
def part (i : grid0.Coords) (x0 : Vec F S2048x1024 .f32) (x1 : Vec F S2048x64 .f32) (x2 : Vec F S1024x64 .f32) (x3 : Vec F S1x64 .f32)
    (cu : Fin 17 → BitVec 32) : FVec F S16x384 .f32 :=
  k0_pay1 (k0_pay13 x0 x2 x3 x1) (k0_pay14 i) (segs (F := F) i cu) (cu 15)

/-- What the last point computes from the finished accumulator. -/
def epi (acc : FVec F S16x384 .f32) : FVec F S1x1 .f32 :=
  k0_pay4 (k0_pay5 acc) (k0_pay10 acc) (k0_pay11 acc) (k0_pay12 acc) (Scalar.ofBits .f32 0x322BCC77#32)

/-- The first point leaves its own contribution. -/
theorem sout_A (c : Dev nD) (i : grid0.Coords) (arg2 : Memref sig .tc .vmem S2048x1024 .f32) (harg2 : arg2.IsWhole) (arg3 : Memref sig .tc .vmem S2048x64 .f32) (harg3 : arg3.IsWhole)
    (arg4 : Memref sig .tc .vmem S1024x64 .f32) (harg4 : arg4.IsWhole) (arg5 : Memref sig .tc .vmem S1x64 .f32) (harg5 : arg5.IsWhole)
    (arg6 : Memref sig .tc .vmem S1x1 .f32) (harg6 : arg6.IsWhole) (arg7 : Memref sig .tc .vmem S16x384 .f32) (harg7 : arg7.IsWhole) (hc0 : cond0_0 i) (hc1 : ¬cond0_1 i) (hc2 : ¬cond0_2 i)
    (x0 : Vec F S2048x1024 .f32) (x1 : Vec F S2048x64 .f32) (x2 : Vec F S1024x64 .f32) (x3 : Vec F S1x64 .f32) (xt0 : TbBuf0 (F := F) c tbM0_0) :
    sout0_A_0 c i arg2 harg2 arg3 harg3 arg4 harg4 arg5 harg5 arg6 harg6 arg7 harg7 hc0 hc1 hc2 x0 x1 x2 x3 xt0 = part i x0 x1 x2 x3 (cuw c xt0) := by
  unfold sout0_A_0
  rw [View.read_writes_eq_canon _ _ _ (scover0_A_0 c i arg2 harg2 arg3 harg3 arg4 harg4 arg5 harg5 arg6 harg6 arg7 harg7 hc0 hc1 hc2 x0 x1 x2 x3 xt0)]
  unfold kernelRun0_A
  dsimp only
  sl_unfold_words
  rw [View.canon_unit_zero hz]
  simp only [View.readAt_eq_ld, harg2.read_unread, harg3.read_unread, harg4.read_unread, harg5.read_unread, harg7.read_unread,
    View.ld_unit_zero (S := S2048x64) hz, View.ld_unit_zero (S := S2048x1024) hz, View.ld_unit_zero (S := S1024x64) hz,
    View.ld_unit_zero (S := S1x64) hz, View.ld_unit_zero (S := S16x384) hz]
  rw [show View.ld (View.read (Elt F) (View.whole main_arg2) xt0) (Rect.unit (s := S17) ![1] ![1] inb_S17_S1_1) (Shape.Idx.first (by decide)) = cuw c xt0 1 from cuw_ld c xt0 1 _ _]
  rw [show View.ld (View.read (Elt F) (View.whole main_arg2) xt0) (Rect.unit (s := S17) ![2] ![1] inb_S17_S1_2) (Shape.Idx.first (by decide)) = cuw c xt0 2 from cuw_ld c xt0 2 _ _]
  rw [show View.ld (View.read (Elt F) (View.whole main_arg2) xt0) (Rect.unit (s := S17) ![3] ![1] inb_S17_S1_3) (Shape.Idx.first (by decide)) = cuw c xt0 3 from cuw_ld c xt0 3 _ _]
  rw [show View.ld (View.read (Elt F) (View.whole main_arg2) xt0) (Rect.unit (s := S17) ![4] ![1] inb_S17_S1_4) (Shape.Idx.first (by decide)) = cuw c xt0 4 from cuw_ld c xt0 4 _ _]
  rw [show View.ld (View.read (Elt F) (View.whole main_arg2) xt0) (Rect.unit (s := S17) ![5] ![1] inb_S17_S1_5) (Shape.Idx.first (by decide)) = cuw c xt0 5 from cuw_ld c xt0 5 _ _]
  rw [show View.ld (View.read (Elt F) (View.whole main_arg2) xt0) (Rect.unit (s := S17) ![6] ![1] inb_S17_S1_6) (Shape.Idx.first (by decide)) = cuw c xt0 6 from cuw_ld c xt0 6 _ _]
  rw [show View.ld (View.read (Elt F) (View.whole main_arg2) xt0) (Rect.unit (s := S17) ![7] ![1] inb_S17_S1_7) (Shape.Idx.first (by decide)) = cuw c xt0 7 from cuw_ld c xt0 7 _ _]
  rw [show View.ld (View.read (Elt F) (View.whole main_arg2) xt0) (Rect.unit (s := S17) ![8] ![1] inb_S17_S1_8) (Shape.Idx.first (by decide)) = cuw c xt0 8 from cuw_ld c xt0 8 _ _]
  rw [show View.ld (View.read (Elt F) (View.whole main_arg2) xt0) (Rect.unit (s := S17) ![9] ![1] inb_S17_S1_9) (Shape.Idx.first (by decide)) = cuw c xt0 9 from cuw_ld c xt0 9 _ _]
  rw [show View.ld (View.read (Elt F) (View.whole main_arg2) xt0) (Rect.unit (s := S17) ![10] ![1] inb_S17_S1_10) (Shape.Idx.first (by decide)) = cuw c xt0 10 from cuw_ld c xt0 10 _ _]
  rw [show View.ld (View.read (Elt F) (View.whole main_arg2) xt0) (Rect.unit (s := S17) ![11] ![1] inb_S17_S1_11) (Shape.Idx.first (by decide)) = cuw c xt0 11 from cuw_ld c xt0 11 _ _]
  rw [show View.ld (View.read (Elt F) (View.whole main_arg2) xt0) (Rect.unit (s := S17) ![12] ![1] inb_S17_S1_12) (Shape.Idx.first (by decide)) = cuw c xt0 12 from cuw_ld c xt0 12 _ _]
  rw [show View.ld (View.read (Elt F) (View.whole main_arg2) xt0) (Rect.unit (s := S17) ![13] ![1] inb_S17_S1_13) (Shape.Idx.first (by decide)) = cuw c xt0 13 from cuw_ld c xt0 13 _ _]
  rw [show View.ld (View.read (Elt F) (View.whole main_arg2) xt0) (Rect.unit (s := S17) ![14] ![1] inb_S17_S1_14) (Shape.Idx.first (by decide)) = cuw c xt0 14 from cuw_ld c xt0 14 _ _]
  rw [show View.ld (View.read (Elt F) (View.whole main_arg2) xt0) (Rect.unit (s := S17) ![15] ![1] inb_S17_S1_15) (Shape.Idx.first (by decide)) = cuw c xt0 15 from cuw_ld c xt0 15 _ _]
  unfold k0_pay2
  simp only [shapeCast_self]
  rfl

/-- A later point adds its contribution to what it found. -/
theorem sout_B (c : Dev nD) (i : grid0.Coords) (arg2 : Memref sig .tc .vmem S2048x1024 .f32) (harg2 : arg2.IsWhole) (arg3 : Memref sig .tc .vmem S2048x64 .f32) (harg3 : arg3.IsWhole)
    (arg4 : Memref sig .tc .vmem S1024x64 .f32) (harg4 : arg4.IsWhole) (arg5 : Memref sig .tc .vmem S1x64 .f32) (harg5 : arg5.IsWhole)
    (arg6 : Memref sig .tc .vmem S1x1 .f32) (harg6 : arg6.IsWhole) (arg7 : Memref sig .tc .vmem S16x384 .f32) (harg7 : arg7.IsWhole) (hc0 : ¬cond0_0 i) (hc1 : cond0_1 i) (hc2 : ¬cond0_2 i)
    (x0 : Vec F S2048x1024 .f32) (x1 : Vec F S2048x64 .f32) (x2 : Vec F S1024x64 .f32) (x3 : Vec F S1x64 .f32) (xt0 : TbBuf0 (F := F) c tbM0_0) (xs0 : Vec F S16x384 .f32) :
    sout0_B_0 c i arg2 harg2 arg3 harg3 arg4 harg4 arg5 harg5 arg6 harg6 arg7 harg7 hc0 hc1 hc2 x0 x1 x2 x3 xt0 xs0 = addf xs0 (part i x0 x1 x2 x3 (cuw c xt0)) := by
  unfold sout0_B_0
  rw [View.read_writes_eq_canon _ _ _ (scover0_B_0 c i arg2 harg2 arg3 harg3 arg4 harg4 arg5 harg5 arg6 harg6 arg7 harg7 hc0 hc1 hc2 x0 x1 x2 x3 xt0 xs0)]
  unfold kernelRun0_B
  dsimp only
  sl_unfold_words
  rw [View.canon_unit_zero hz]
  simp only [View.readAt_eq_ld, harg2.read_unread, harg3.read_unread, harg4.read_unread, harg5.read_unread, harg7.read_unread,
    View.ld_unit_zero (S := S2048x64) hz, View.ld_unit_zero (S := S2048x1024) hz, View.ld_unit_zero (S := S1024x64) hz,
    View.ld_unit_zero (S := S1x64) hz, View.ld_unit_zero (S := S16x384) hz]
  rw [show View.ld (View.read (Elt F) (View.whole main_arg2) xt0) (Rect.unit (s := S17) ![1] ![1] inb_S17_S1_1) (Shape.Idx.first (by decide)) = cuw c xt0 1 from cuw_ld c xt0 1 _ _]
  rw [show View.ld (View.read (Elt F) (View.whole main_arg2) xt0) (Rect.unit (s := S17) ![2] ![1] inb_S17_S1_2) (Shape.Idx.first (by decide)) = cuw c xt0 2 from cuw_ld c xt0 2 _ _]
  rw [show View.ld (View.read (Elt F) (View.whole main_arg2) xt0) (Rect.unit (s := S17) ![3] ![1] inb_S17_S1_3) (Shape.Idx.first (by decide)) = cuw c xt0 3 from cuw_ld c xt0 3 _ _]
  rw [show View.ld (View.read (Elt F) (View.whole main_arg2) xt0) (Rect.unit (s := S17) ![4] ![1] inb_S17_S1_4) (Shape.Idx.first (by decide)) = cuw c xt0 4 from cuw_ld c xt0 4 _ _]
  rw [show View.ld (View.read (Elt F) (View.whole main_arg2) xt0) (Rect.unit (s := S17) ![5] ![1] inb_S17_S1_5) (Shape.Idx.first (by decide)) = cuw c xt0 5 from cuw_ld c xt0 5 _ _]
  rw [show View.ld (View.read (Elt F) (View.whole main_arg2) xt0) (Rect.unit (s := S17) ![6] ![1] inb_S17_S1_6) (Shape.Idx.first (by decide)) = cuw c xt0 6 from cuw_ld c xt0 6 _ _]
  rw [show View.ld (View.read (Elt F) (View.whole main_arg2) xt0) (Rect.unit (s := S17) ![7] ![1] inb_S17_S1_7) (Shape.Idx.first (by decide)) = cuw c xt0 7 from cuw_ld c xt0 7 _ _]
  rw [show View.ld (View.read (Elt F) (View.whole main_arg2) xt0) (Rect.unit (s := S17) ![8] ![1] inb_S17_S1_8) (Shape.Idx.first (by decide)) = cuw c xt0 8 from cuw_ld c xt0 8 _ _]
  rw [show View.ld (View.read (Elt F) (View.whole main_arg2) xt0) (Rect.unit (s := S17) ![9] ![1] inb_S17_S1_9) (Shape.Idx.first (by decide)) = cuw c xt0 9 from cuw_ld c xt0 9 _ _]
  rw [show View.ld (View.read (Elt F) (View.whole main_arg2) xt0) (Rect.unit (s := S17) ![10] ![1] inb_S17_S1_10) (Shape.Idx.first (by decide)) = cuw c xt0 10 from cuw_ld c xt0 10 _ _]
  rw [show View.ld (View.read (Elt F) (View.whole main_arg2) xt0) (Rect.unit (s := S17) ![11] ![1] inb_S17_S1_11) (Shape.Idx.first (by decide)) = cuw c xt0 11 from cuw_ld c xt0 11 _ _]
  rw [show View.ld (View.read (Elt F) (View.whole main_arg2) xt0) (Rect.unit (s := S17) ![12] ![1] inb_S17_S1_12) (Shape.Idx.first (by decide)) = cuw c xt0 12 from cuw_ld c xt0 12 _ _]
  rw [show View.ld (View.read (Elt F) (View.whole main_arg2) xt0) (Rect.unit (s := S17) ![13] ![1] inb_S17_S1_13) (Shape.Idx.first (by decide)) = cuw c xt0 13 from cuw_ld c xt0 13 _ _]
  rw [show View.ld (View.read (Elt F) (View.whole main_arg2) xt0) (Rect.unit (s := S17) ![14] ![1] inb_S17_S1_14) (Shape.Idx.first (by decide)) = cuw c xt0 14 from cuw_ld c xt0 14 _ _]
  rw [show View.ld (View.read (Elt F) (View.whole main_arg2) xt0) (Rect.unit (s := S17) ![15] ![1] inb_S17_S1_15) (Shape.Idx.first (by decide)) = cuw c xt0 15 from cuw_ld c xt0 15 _ _]
  unfold k0_pay3
  simp only [shapeCast_self]
  rfl

/-- So does the last point. -/
theorem sout_C (c : Dev nD) (i : grid0.Coords) (arg2 : Memref sig .tc .vmem S2048x1024 .f32) (harg2 : arg2.IsWhole) (arg3 : Memref sig .tc .vmem S2048x64 .f32) (harg3 : arg3.IsWhole)
    (arg4 : Memref sig .tc .vmem S1024x64 .f32) (harg4 : arg4.IsWhole) (arg5 : Memref sig .tc .vmem S1x64 .f32) (harg5 : arg5.IsWhole)
    (arg6 : Memref sig .tc .vmem S1x1 .f32) (harg6 : arg6.IsWhole) (arg7 : Memref sig .tc .vmem S16x384 .f32) (harg7 : arg7.IsWhole) (hc0 : ¬cond0_0 i) (hc1 : cond0_1 i) (hc2 : cond0_2 i)
    (x0 : Vec F S2048x1024 .f32) (x1 : Vec F S2048x64 .f32) (x2 : Vec F S1024x64 .f32) (x3 : Vec F S1x64 .f32) (xt0 : TbBuf0 (F := F) c tbM0_0) (xs0 : Vec F S16x384 .f32) :
    sout0_C_0 c i arg2 harg2 arg3 harg3 arg4 harg4 arg5 harg5 arg6 harg6 arg7 harg7 hc0 hc1 hc2 x0 x1 x2 x3 xt0 xs0 = addf xs0 (part i x0 x1 x2 x3 (cuw c xt0)) := by
  unfold sout0_C_0
  rw [View.read_writes_eq_canon _ _ _ (scover0_C_0 c i arg2 harg2 arg3 harg3 arg4 harg4 arg5 harg5 arg6 harg6 arg7 harg7 hc0 hc1 hc2 x0 x1 x2 x3 xt0 xs0)]
  unfold kernelRun0_C
  dsimp only
  sl_unfold_words
  rw [View.canon_unit_zero hz]
  simp only [View.readAt_eq_ld, harg2.read_unread, harg3.read_unread, harg4.read_unread, harg5.read_unread, harg7.read_unread,
    View.ld_unit_zero (S := S2048x64) hz, View.ld_unit_zero (S := S2048x1024) hz, View.ld_unit_zero (S := S1024x64) hz,
    View.ld_unit_zero (S := S1x64) hz, View.ld_unit_zero (S := S16x384) hz]
  rw [show View.ld (View.read (Elt F) (View.whole main_arg2) xt0) (Rect.unit (s := S17) ![1] ![1] inb_S17_S1_1) (Shape.Idx.first (by decide)) = cuw c xt0 1 from cuw_ld c xt0 1 _ _]
  rw [show View.ld (View.read (Elt F) (View.whole main_arg2) xt0) (Rect.unit (s := S17) ![2] ![1] inb_S17_S1_2) (Shape.Idx.first (by decide)) = cuw c xt0 2 from cuw_ld c xt0 2 _ _]
  rw [show View.ld (View.read (Elt F) (View.whole main_arg2) xt0) (Rect.unit (s := S17) ![3] ![1] inb_S17_S1_3) (Shape.Idx.first (by decide)) = cuw c xt0 3 from cuw_ld c xt0 3 _ _]
  rw [show View.ld (View.read (Elt F) (View.whole main_arg2) xt0) (Rect.unit (s := S17) ![4] ![1] inb_S17_S1_4) (Shape.Idx.first (by decide)) = cuw c xt0 4 from cuw_ld c xt0 4 _ _]
  rw [show View.ld (View.read (Elt F) (View.whole main_arg2) xt0) (Rect.unit (s := S17) ![5] ![1] inb_S17_S1_5) (Shape.Idx.first (by decide)) = cuw c xt0 5 from cuw_ld c xt0 5 _ _]
  rw [show View.ld (View.read (Elt F) (View.whole main_arg2) xt0) (Rect.unit (s := S17) ![6] ![1] inb_S17_S1_6) (Shape.Idx.first (by decide)) = cuw c xt0 6 from cuw_ld c xt0 6 _ _]
  rw [show View.ld (View.read (Elt F) (View.whole main_arg2) xt0) (Rect.unit (s := S17) ![7] ![1] inb_S17_S1_7) (Shape.Idx.first (by decide)) = cuw c xt0 7 from cuw_ld c xt0 7 _ _]
  rw [show View.ld (View.read (Elt F) (View.whole main_arg2) xt0) (Rect.unit (s := S17) ![8] ![1] inb_S17_S1_8) (Shape.Idx.first (by decide)) = cuw c xt0 8 from cuw_ld c xt0 8 _ _]
  rw [show View.ld (View.read (Elt F) (View.whole main_arg2) xt0) (Rect.unit (s := S17) ![9] ![1] inb_S17_S1_9) (Shape.Idx.first (by decide)) = cuw c xt0 9 from cuw_ld c xt0 9 _ _]
  rw [show View.ld (View.read (Elt F) (View.whole main_arg2) xt0) (Rect.unit (s := S17) ![10] ![1] inb_S17_S1_10) (Shape.Idx.first (by decide)) = cuw c xt0 10 from cuw_ld c xt0 10 _ _]
  rw [show View.ld (View.read (Elt F) (View.whole main_arg2) xt0) (Rect.unit (s := S17) ![11] ![1] inb_S17_S1_11) (Shape.Idx.first (by decide)) = cuw c xt0 11 from cuw_ld c xt0 11 _ _]
  rw [show View.ld (View.read (Elt F) (View.whole main_arg2) xt0) (Rect.unit (s := S17) ![12] ![1] inb_S17_S1_12) (Shape.Idx.first (by decide)) = cuw c xt0 12 from cuw_ld c xt0 12 _ _]
  rw [show View.ld (View.read (Elt F) (View.whole main_arg2) xt0) (Rect.unit (s := S17) ![13] ![1] inb_S17_S1_13) (Shape.Idx.first (by decide)) = cuw c xt0 13 from cuw_ld c xt0 13 _ _]
  rw [show View.ld (View.read (Elt F) (View.whole main_arg2) xt0) (Rect.unit (s := S17) ![14] ![1] inb_S17_S1_14) (Shape.Idx.first (by decide)) = cuw c xt0 14 from cuw_ld c xt0 14 _ _]
  rw [show View.ld (View.read (Elt F) (View.whole main_arg2) xt0) (Rect.unit (s := S17) ![15] ![1] inb_S17_S1_15) (Shape.Idx.first (by decide)) = cuw c xt0 15 from cuw_ld c xt0 15 _ _]
  unfold k0_pay3
  simp only [shapeCast_self]
  rfl

/-- The last point's output: the epilogue on the accumulator it just finished. -/
theorem out_C (c : Dev nD) (i : grid0.Coords) (arg2 : Memref sig .tc .vmem S2048x1024 .f32) (harg2 : arg2.IsWhole) (arg3 : Memref sig .tc .vmem S2048x64 .f32) (harg3 : arg3.IsWhole)
    (arg4 : Memref sig .tc .vmem S1024x64 .f32) (harg4 : arg4.IsWhole) (arg5 : Memref sig .tc .vmem S1x64 .f32) (harg5 : arg5.IsWhole)
    (arg6 : Memref sig .tc .vmem S1x1 .f32) (harg6 : arg6.IsWhole) (arg7 : Memref sig .tc .vmem S16x384 .f32) (harg7 : arg7.IsWhole) (hc0 : ¬cond0_0 i) (hc1 : cond0_1 i) (hc2 : cond0_2 i)
    (x0 : Vec F S2048x1024 .f32) (x1 : Vec F S2048x64 .f32) (x2 : Vec F S1024x64 .f32) (x3 : Vec F S1x64 .f32) (xt0 : TbBuf0 (F := F) c tbM0_0) (xs0 : Vec F S16x384 .f32) :
    out0_C_4 c i arg2 harg2 arg3 harg3 arg4 harg4 arg5 harg5 arg6 harg6 arg7 harg7 hc0 hc1 hc2 x0 x1 x2 x3 xt0 xs0 = epi (addf xs0 (part i x0 x1 x2 x3 (cuw c xt0))) := by
  unfold out0_C_4
  rw [View.read_writes_eq_canon _ _ _ (cover0_C_4 c i arg2 harg2 arg3 harg3 arg4 harg4 arg5 harg5 arg6 harg6 arg7 harg7 hc0 hc1 hc2 x0 x1 x2 x3 xt0 xs0)]
  unfold kernelRun0_C
  dsimp only
  sl_unfold_words
  rw [View.canon_unit_zero hz, View.readCov_unit_zero (S := S16x384) _ hz]
  simp only [View.readAt_eq_ld, harg2.read_unread, harg3.read_unread, harg4.read_unread, harg5.read_unread, harg7.read_unread,
    View.ld_unit_zero (S := S2048x64) hz, View.ld_unit_zero (S := S2048x1024) hz, View.ld_unit_zero (S := S1024x64) hz,
    View.ld_unit_zero (S := S1x64) hz, View.ld_unit_zero (S := S16x384) hz]
  rw [show View.ld (View.read (Elt F) (View.whole main_arg2) xt0) (Rect.unit (s := S17) ![1] ![1] inb_S17_S1_1) (Shape.Idx.first (by decide)) = cuw c xt0 1 from cuw_ld c xt0 1 _ _]
  rw [show View.ld (View.read (Elt F) (View.whole main_arg2) xt0) (Rect.unit (s := S17) ![2] ![1] inb_S17_S1_2) (Shape.Idx.first (by decide)) = cuw c xt0 2 from cuw_ld c xt0 2 _ _]
  rw [show View.ld (View.read (Elt F) (View.whole main_arg2) xt0) (Rect.unit (s := S17) ![3] ![1] inb_S17_S1_3) (Shape.Idx.first (by decide)) = cuw c xt0 3 from cuw_ld c xt0 3 _ _]
  rw [show View.ld (View.read (Elt F) (View.whole main_arg2) xt0) (Rect.unit (s := S17) ![4] ![1] inb_S17_S1_4) (Shape.Idx.first (by decide)) = cuw c xt0 4 from cuw_ld c xt0 4 _ _]
  rw [show View.ld (View.read (Elt F) (View.whole main_arg2) xt0) (Rect.unit (s := S17) ![5] ![1] inb_S17_S1_5) (Shape.Idx.first (by decide)) = cuw c xt0 5 from cuw_ld c xt0 5 _ _]
  rw [show View.ld (View.read (Elt F) (View.whole main_arg2) xt0) (Rect.unit (s := S17) ![6] ![1] inb_S17_S1_6) (Shape.Idx.first (by decide)) = cuw c xt0 6 from cuw_ld c xt0 6 _ _]
  rw [show View.ld (View.read (Elt F) (View.whole main_arg2) xt0) (Rect.unit (s := S17) ![7] ![1] inb_S17_S1_7) (Shape.Idx.first (by decide)) = cuw c xt0 7 from cuw_ld c xt0 7 _ _]
  rw [show View.ld (View.read (Elt F) (View.whole main_arg2) xt0) (Rect.unit (s := S17) ![8] ![1] inb_S17_S1_8) (Shape.Idx.first (by decide)) = cuw c xt0 8 from cuw_ld c xt0 8 _ _]
  rw [show View.ld (View.read (Elt F) (View.whole main_arg2) xt0) (Rect.unit (s := S17) ![9] ![1] inb_S17_S1_9) (Shape.Idx.first (by decide)) = cuw c xt0 9 from cuw_ld c xt0 9 _ _]
  rw [show View.ld (View.read (Elt F) (View.whole main_arg2) xt0) (Rect.unit (s := S17) ![10] ![1] inb_S17_S1_10) (Shape.Idx.first (by decide)) = cuw c xt0 10 from cuw_ld c xt0 10 _ _]
  rw [show View.ld (View.read (Elt F) (View.whole main_arg2) xt0) (Rect.unit (s := S17) ![11] ![1] inb_S17_S1_11) (Shape.Idx.first (by decide)) = cuw c xt0 11 from cuw_ld c xt0 11 _ _]
  rw [show View.ld (View.read (Elt F) (View.whole main_arg2) xt0) (Rect.unit (s := S17) ![12] ![1] inb_S17_S1_12) (Shape.Idx.first (by decide)) = cuw c xt0 12 from cuw_ld c xt0 12 _ _]
  rw [show View.ld (View.read (Elt F) (View.whole main_arg2) xt0) (Rect.unit (s := S17) ![13] ![1] inb_S17_S1_13) (Shape.Idx.first (by decide)) = cuw c xt0 13 from cuw_ld c xt0 13 _ _]
  rw [show View.ld (View.read (Elt F) (View.whole main_arg2) xt0) (Rect.unit (s := S17) ![14] ![1] inb_S17_S1_14) (Shape.Idx.first (by decide)) = cuw c xt0 14 from cuw_ld c xt0 14 _ _]
  rw [show View.ld (View.read (Elt F) (View.whole main_arg2) xt0) (Rect.unit (s := S17) ![15] ![1] inb_S17_S1_15) (Shape.Idx.first (by decide)) = cuw c xt0 15 from cuw_ld c xt0 15 _ _]
  unfold k0_pay3
  simp only [shapeCast_self]
  rfl

end Cert.KernelIdeal.Value

end
-- ==== Proof.Words.lean ====
/-
  The segment number of a row: how many of the fifteen inner boundaries the row is at or past, as a natural number, and
  the word the kernel computes for it.
-/
module

public import proofs.«01_k».proof.Proof.Pieces

@[expose] public section

noncomputable section

open Idealize.ShloMosaic Idealize.ShloMosaic.TcCoe Idealize.SL.Sem

namespace Cert.Segment

/-- One if row `r` is at or past the boundary `w`, else zero. -/
def past (w : BitVec 32) (r : Nat) : Nat := if w.toInt ≤ r then 1 else 0

/-- How many of the inner boundaries row `r` is at or past. -/
def below (cu : Fin 17 → BitVec 32) (r : Nat) : Nat :=
  0 + past (cu 1) r + past (cu 2) r + past (cu 3) r + past (cu 4) r + past (cu 5) r + past (cu 6) r + past (cu 7) r + past (cu 8) r
    + past (cu 9) r + past (cu 10) r + past (cu 11) r + past (cu 12) r + past (cu 13) r + past (cu 14) r + past (cu 15) r

theorem past_le (w : BitVec 32) (r : Nat) : past w r ≤ 1 := by unfold past; split <;> omega

theorem below_lt (cu : Fin 17 → BitVec 32) (r : Nat) : below cu r < 16 := by
  have h := fun k => past_le (cu k) r
  have := h 1; have := h 2; have := h 3; have := h 4; have := h 5; have := h 6; have := h 7; have := h 8; have := h 9
  have := h 10; have := h 11; have := h 12; have := h 13; have := h 14; have := h 15
  unfold below; omega

/-- One comparison's contribution, as a word. -/
theorem step_word (w c : BitVec 32) (r : Nat) (hw : w.toInt = r) :
    Scalar.select (IntOp.cmpi .sge w c) 1#32 0#32 = BitVec.ofNat 32 (past c r) := by
  unfold past
  by_cases h : c.toInt ≤ r
  · simp [Scalar.select, IntOp.cmpi, BitVec.sle, hw, h]
  · simp [Scalar.select, IntOp.cmpi, BitVec.sle, hw, h]

theorem toInt_ofNat {n : Nat} (h : n < 2 ^ 31) : (BitVec.ofNat 32 n).toInt = n := by
  rw [BitVec.toInt_eq_toNat_of_lt] <;> rw [BitVec.toNat_ofNat] <;> omega

end Cert.Segment

namespace Cert.KernelIdeal.Value

open Cert.KernelIdeal Cert.KernelIdeal.Gen Cert.Segment

open Idealize.ShloMosaic.ValueIdx

variable {F : FTy → Type} [FloatOps F]

/-- The word of a row's number. -/
theorem row_word (i : grid0.Coords) (k : Fin 2048) : k0_pay14 i (ix2 0 k) = BitVec.ofNat 32 (2048 * (i 0).val + k.val) := by
  show IntOp.addi (Scalar.muli (BitVec.ofNat 32 (i 0).val) 2048#32) (iota .tc S1x2048 32 [1] iota_S1x2048_d1_w32 (ix2 0 k)) = _
  rw [iota_single_apply]
  show BitVec.ofNat 32 (i 0).val * BitVec.ofNat 32 2048 + BitVec.ofNat 32 k.val = _
  rw [← BitVec.ofNat_mul, ← BitVec.ofNat_add, Nat.mul_comm]

theorem row_toInt (i : grid0.Coords) (k : Fin 2048) : (k0_pay14 i (ix2 0 k)).toInt = (2048 * (i 0).val + k.val : Nat) := by
  rw [row_word]
  have h := (i 0).isLt
  have h2 : (i 0).val < 16 := h
  exact toInt_ofNat (by have := k.isLt; omega)

/-- The kernel's word for a row's segment. -/
theorem seg_word (i : grid0.Coords) (cu : Fin 17 → BitVec 32) (k : Fin 2048) :
    IntOp.addi (segs (F := F) i cu (ix2 0 k)) (Scalar.select (IntOp.cmpi .sge (k0_pay14 i (ix2 0 k)) (cu 15)) 1#32 0#32)
      = BitVec.ofNat 32 (below cu (2048 * (i 0).val + k.val)) := by
  have e : segs (F := F) i cu (ix2 0 k)
      = 0#32 + Scalar.select (IntOp.cmpi .sge (k0_pay14 i (ix2 0 k)) (cu 1)) 1#32 0#32
        + Scalar.select (IntOp.cmpi .sge (k0_pay14 i (ix2 0 k)) (cu 2)) 1#32 0#32
        + Scalar.select (IntOp.cmpi .sge (k0_pay14 i (ix2 0 k)) (cu 3)) 1#32 0#32
        + Scalar.select (IntOp.cmpi .sge (k0_pay14 i (ix2 0 k)) (cu 4)) 1#32 0#32
        + Scalar.select (IntOp.cmpi .sge (k0_pay14 i (ix2 0 k)) (cu 5)) 1#32 0#32
        + Scalar.select (IntOp.cmpi .sge (k0_pay14 i (ix2 0 k)) (cu 6)) 1#32 0#32
        + Scalar.select (IntOp.cmpi .sge (k0_pay14 i (ix2 0 k)) (cu 7)) 1#32 0#32
        + Scalar.select (IntOp.cmpi .sge (k0_pay14 i (ix2 0 k)) (cu 8)) 1#32 0#32
        + Scalar.select (IntOp.cmpi .sge (k0_pay14 i (ix2 0 k)) (cu 9)) 1#32 0#32
        + Scalar.select (IntOp.cmpi .sge (k0_pay14 i (ix2 0 k)) (cu 10)) 1#32 0#32
        + Scalar.select (IntOp.cmpi .sge (k0_pay14 i (ix2 0 k)) (cu 11)) 1#32 0#32
        + Scalar.select (IntOp.cmpi .sge (k0_pay14 i (ix2 0 k)) (cu 12)) 1#32 0#32
        + Scalar.select (IntOp.cmpi .sge (k0_pay14 i (ix2 0 k)) (cu 13)) 1#32 0#32
        + Scalar.select (IntOp.cmpi .sge (k0_pay14 i (ix2 0 k)) (cu 14)) 1#32 0#32 := rfl
  rw [e]
  unfold IntOp.addi below
  simp only [step_word _ _ _ (row_toInt i k), BitVec.ofNat_add]

end Cert.KernelIdeal.Value

end
-- ==== Proof.Scalars.lean ====
/-
  The ideal scalar operations at real numbers, and the constants the two programs spell as words.
-/
module

public import Idealize.ShloMosaic.PureOps.Ideal
public import Idealize.ShloMosaic.PureOps.Ideal.Laws

@[expose] public section

noncomputable section

open Idealize.ShloMosaic

namespace Cert.Scalars

theorem exp_coe (r : ℝ) : Ideal.exp (r : EReal) = (Real.exp r : EReal) := rfl

theorem log_coe {r : ℝ} (h : 0 < r) : Ideal.log (r : EReal) = (Real.log r : EReal) := if_neg (not_le.2 h)

theorem div_coe {x y : ℝ} (h : y ≠ 0) : Ideal.div (x : EReal) (y : EReal) = ((x / y : ℝ) : EReal) := by
  unfold Ideal.div
  rw [if_neg (by simpa using h), ← EReal.coe_inv, ← EReal.coe_mul, div_eq_mul_inv]

/-- A non-negative number times its logarithm is real, at zero too. -/
theorem mul_log_coe {r : ℝ} (h : 0 ≤ r) : (r : EReal) * Ideal.log (r : EReal) = ((r * Real.log r : ℝ) : EReal) := by
  rcases h.lt_or_eq with h | h
  · rw [log_coe h, EReal.coe_mul]
  · subst h; simp

theorem coe_sum {ι : Type} [Fintype ι] (f : ι → ℝ) : ((∑ i, f i : ℝ) : EReal) = ∑ i, (f i : EReal) := by
  classical
  refine Finset.induction_on (Finset.univ : Finset ι) (by simp) fun a s ha ih => ?_
  rw [Finset.sum_insert ha, Finset.sum_insert ha, EReal.coe_add, ih]

theorem ite_coe (p : Prop) [Decidable p] (x y : ℝ) : (if p then (x : EReal) else (y : EReal)) = ((if p then x else y : ℝ) : EReal) := by
  split <;> rfl

theorem select_coe (p : Prop) [Decidable p] (x y : ℝ) : Scalar.select (BitVec.ofBool (decide p)) (x : EReal) (y : EReal) = ((if p then x else y : ℝ) : EReal) := by
  by_cases h : p <;> simp [Scalar.select, h]

theorem select_prop (p : Prop) [Decidable p] {α : Type} (x y : α) : Scalar.select (BitVec.ofBool (decide p)) x y = if p then x else y := by
  by_cases h : p <;> simp [Scalar.select, h]

theorem ogt_coe (x y : ℝ) : Ideal.cmp .ogt (x : EReal) (y : EReal) = BitVec.ofBool (decide (y < x)) := by
  unfold Ideal.cmp; simp only [EReal.coe_lt_coe_iff]

theorem oeq_coe (x y : ℝ) : Ideal.cmp .oeq (x : EReal) (y : EReal) = BitVec.ofBool (decide (x = y)) := by
  unfold Ideal.cmp; simp only [EReal.coe_eq_coe_iff]

theorem word_zero : Ideal.ofBits .f32 0x00000000#32 = ((0 : ℝ) : EReal) := by simp

theorem word_one : Ideal.ofBits .f32 0x3F800000#32 = ((1 : ℝ) : EReal) := by
  simp [Ideal.ofBits, Ideal.ieee, -EReal.coe_mul]; norm_num

theorem word_cells : Ideal.ofBits .f32 0x44800000#32 = ((1024 : ℝ) : EReal) := by
  simp [Ideal.ofBits, Ideal.ieee, -EReal.coe_mul]; norm_num

theorem word_rows : Ideal.ofBits .f32 0x47000000#32 = ((32768 : ℝ) : EReal) := by
  simp [Ideal.ofBits, Ideal.ieee, -EReal.coe_mul]; norm_num

theorem word_bot : Ideal.ofBits .f32 0xFF800000#32 = ⊥ := by simp [Ideal.ofBits, Ideal.ieee]

theorem word_top : Ideal.ofBits .f32 0x7F800000#32 = ⊤ := by simp [Ideal.ofBits, Ideal.ieee]

/-- The number the small word is. -/
def eps : ℝ := (Ideal.ofBits .f32 0x322BCC77#32).toReal

theorem word_eps_aux : ∃ r : ℝ, 0 < r ∧ Ideal.ofBits .f32 0x322BCC77#32 = (r : EReal) := by
  refine ⟨_, ?_, by simp [Ideal.ofBits, Ideal.ieee, -EReal.coe_mul]; rfl⟩
  norm_num

theorem word_eps : Ideal.ofBits .f32 0x322BCC77#32 = (eps : EReal) := by
  obtain ⟨r, -, h⟩ := word_eps_aux
  unfold eps; rw [h, EReal.toReal_coe]

theorem eps_pos : 0 < eps := by
  obtain ⟨r, h0, h⟩ := word_eps_aux
  unfold eps; rwa [h, EReal.toReal_coe]

end Cert.Scalars

end
-- ==== Proof.Equation.lean ====
/-
  The identity over the reals the two programs share: what the kernel computes from five per-segment sums and a count is
  what the reference computes row by row.
-/
module

public import Mathlib.Analysis.SpecialFunctions.Log.Basic
public import Mathlib.Algebra.BigOperators.Field

@[expose] public section

noncomputable section

open Finset

namespace Cert.Math

variable {ι κ γ : Type} [Fintype ι] [Fintype κ] [DecidableEq κ] [Fintype γ]

/-- The sum of `f` over the rows of segment `s`. -/
def segSum (seg : ι → κ) (s : κ) (f : ι → ℝ) : ℝ := ∑ r, if seg r = s then f r else 0

/-- A target's logarithm, with zero read as one. -/
def slog (t : ℝ) : ℝ := Real.log (if 0 < t then t else 1)

/-- The share of a row in its segment's total. -/
def share (t R : ℝ) : ℝ := if t = 0 ∧ R = 0 then 1 else t / R

variable (seg : ι → κ) (T P : ι → γ → ℝ)

def rt (s : κ) (c : γ) : ℝ := segSum seg s fun r => T r c
def tp (s : κ) (c : γ) : ℝ := segSum seg s fun r => T r c * P r c
def tl (s : κ) (c : γ) : ℝ := segSum seg s fun r => T r c * slog (T r c)
def sp (s : κ) (c : γ) : ℝ := segSum seg s fun r => P r c
def s0 (s : κ) (c : γ) : ℝ := segSum seg s fun r => Real.exp (P r c)
def cnt (s : κ) : ℝ := segSum seg s fun _ => 1
/-- The segment's total, with zero replaced by one. -/
def safe (s : κ) (c : γ) : ℝ := if 0 < rt seg T s c then rt seg T s c else 1
def stp (s : κ) (c : γ) : ℝ := if 0 < rt seg T s c then tp seg T P s c / safe seg T s c else sp seg P s c
def segst (s : κ) (c : γ) : ℝ := if 0 < rt seg T s c then 1 else cnt seg s
def devs (s : κ) (c : γ) : ℝ :=
  if 0 < rt seg T s c then 1 - (tl seg T s c / safe seg T s c - Real.log (safe seg T s c)) else cnt seg s
def rp (s : κ) (c : γ) : ℝ := Real.log (s0 seg P s c)

/-- The kernel's value, from the sums. -/
def kernelValue (n eps d : ℝ) : ℝ :=
  (((n - ∑ s, ∑ c, stp seg T P s c) + ∑ s, ∑ c, rp seg P s c * segst seg T s c)
      + ∑ s, ∑ c, (Real.exp (rp seg P s c) - rt seg T s c * rp seg P s c)
    - (∑ s, ∑ c, devs seg T s c + ∑ s, ∑ c, (rt seg T s c - rt seg T s c * Real.log (rt seg T s c + eps)))) / d

/-- The reference's rate prediction: the log of the sum of exponentials, about `μ`. -/
def lse (μ : κ → γ → ℝ) (s : κ) (c : γ) : ℝ := μ s c + Real.log (segSum seg s fun r => Real.exp (P r c - μ (seg r) c))

/-- The reference's value, row by row. -/
def refValue (μ : κ → γ → ℝ) (eps d : ℝ) : ℝ :=
  ((∑ r, ∑ c, (Real.exp (P r c - lse seg P μ (seg r) c) - share (T r c) (rt seg T (seg r) c) * (P r c - lse seg P μ (seg r) c))
      + ∑ s, ∑ c, (Real.exp (lse seg P μ s c) - rt seg T s c * lse seg P μ s c))
    - (∑ r, ∑ c, (share (T r c) (rt seg T (seg r) c) - share (T r c) (rt seg T (seg r) c) * Real.log (share (T r c) (rt seg T (seg r) c)))
      + ∑ s, ∑ c, (rt seg T s c - rt seg T s c * Real.log (rt seg T s c + eps)))) / d

theorem segSum_congr {s : κ} {f g : ι → ℝ} (h : ∀ r, seg r = s → f r = g r) : segSum seg s f = segSum seg s g :=
  sum_congr rfl fun r _ => by by_cases e : seg r = s <;> simp [e, h]

theorem segSum_mul (s : κ) (f : ι → ℝ) (a : ℝ) : segSum seg s (fun r => f r * a) = segSum seg s f * a := by
  unfold segSum; rw [sum_mul]; exact sum_congr rfl fun r _ => by split <;> simp

theorem segSum_sub (s : κ) (f g : ι → ℝ) : segSum seg s (fun r => f r - g r) = segSum seg s f - segSum seg s g := by
  unfold segSum; rw [← sum_sub_distrib]; exact sum_congr rfl fun r _ => by split <;> simp

theorem sum_rows (f : ι → γ → ℝ) : ∑ r, ∑ c, f r c = ∑ s, ∑ c, segSum seg s fun r => f r c := by
  unfold segSum
  calc ∑ r, ∑ c, f r c = ∑ r, ∑ s, if seg r = s then ∑ c, f r c else 0 := by
        refine sum_congr rfl fun r _ => ?_
        rw [sum_ite_eq]; simp
    _ = ∑ s, ∑ r, if seg r = s then ∑ c, f r c else 0 := sum_comm
    _ = ∑ s, ∑ c, ∑ r, if seg r = s then f r c else 0 := by
        refine sum_congr rfl fun s _ => ?_
        rw [sum_comm]
        refine sum_congr rfl fun r _ => ?_
        split <;> simp

variable (hsurj : ∀ s, ∃ r, seg r = s) (hT : ∀ r c, 0 ≤ T r c)

include hsurj in
theorem segSum_exp_pos (s : κ) (f : ι → ℝ) : 0 < segSum seg s fun r => Real.exp (f r) := by
  obtain ⟨r, hr⟩ := hsurj s
  refine sum_pos' (fun i _ => by split <;> positivity) ⟨r, mem_univ _, by simp [hr, Real.exp_pos]⟩

include hsurj in
theorem lse_eq (μ : κ → γ → ℝ) (s : κ) (c : γ) : lse seg P μ s c = rp seg P s c := by
  unfold lse rp s0
  have h : (segSum seg s fun r => Real.exp (P r c - μ (seg r) c)) = (segSum seg s fun r => Real.exp (P r c)) * Real.exp (-μ s c) := by
    rw [← segSum_mul]
    exact segSum_congr seg fun r hr => by rw [hr, ← Real.exp_add, sub_eq_add_neg]
  rw [h, Real.log_mul (segSum_exp_pos seg hsurj s _).ne' (Real.exp_pos _).ne', Real.log_exp]
  ring

include hsurj in
theorem segSum_exp_rp (s : κ) (c : γ) : (segSum seg s fun r => Real.exp (P r c - rp seg P s c)) = 1 := by
  have hp : 0 < s0 seg P s c := segSum_exp_pos seg hsurj s fun r => P r c
  have h : (segSum seg s fun r => Real.exp (P r c - rp seg P s c)) = (segSum seg s fun r => Real.exp (P r c)) * (s0 seg P s c)⁻¹ := by
    rw [← segSum_mul]
    exact segSum_congr seg fun r _ => by
      rw [Real.exp_sub, rp, Real.exp_log hp]; rfl
  rw [h]
  exact mul_inv_cancel₀ hp.ne'

include hT in
theorem rt_nonneg (s : κ) (c : γ) : 0 ≤ rt seg T s c :=
  sum_nonneg fun r _ => by split; exacts [hT r c, le_rfl]

include hT in
/-- A segment whose total is zero has zero targets. -/
theorem eq_zero_of_rt (s : κ) (c : γ) (h : ¬ 0 < rt seg T s c) (r : ι) (hr : seg r = s) : T r c = 0 := by
  have h0 : rt seg T s c = 0 := le_antisymm (not_lt.1 h) (rt_nonneg seg T hT s c)
  have := (sum_eq_zero_iff_of_nonneg (fun i _ => by dsimp only; split; exacts [hT i c, le_rfl])).1 h0 r (mem_univ r)
  simpa [hr] using this

include hT in
theorem segSum_share (s : κ) (c : γ) :
    (segSum seg s fun r => share (T r c) (rt seg T s c) * (P r c - rp seg P s c)) = stp seg T P s c - rp seg P s c * segst seg T s c := by
  unfold stp segst safe
  by_cases h : 0 < rt seg T s c
  · simp only [h, if_true]
    have e : (segSum seg s fun r => share (T r c) (rt seg T s c) * (P r c - rp seg P s c))
        = segSum seg s fun r => (T r c * P r c) * (rt seg T s c)⁻¹ - T r c * ((rt seg T s c)⁻¹ * rp seg P s c) :=
      segSum_congr seg fun r _ => by
        simp only [share, h.ne', and_false, if_false]; ring
    rw [e, segSum_sub, segSum_mul, segSum_mul, div_eq_mul_inv]
    have e2 : (segSum seg s fun r => T r c) = rt seg T s c := rfl
    rw [e2]
    have e3 : rt seg T s c * ((rt seg T s c)⁻¹ * rp seg P s c) = rp seg P s c := by rw [← mul_assoc, mul_inv_cancel₀ h.ne', one_mul]
    rw [e3, mul_one]; rfl
  · simp only [h, if_false]
    have h0 : rt seg T s c = 0 := le_antisymm (not_lt.1 h) (rt_nonneg seg T hT s c)
    have e : (segSum seg s fun r => share (T r c) (rt seg T s c) * (P r c - rp seg P s c))
        = segSum seg s fun r => P r c - 1 * rp seg P s c :=
      segSum_congr seg fun r hr => by
        simp only [share, eq_zero_of_rt seg T hT s c h r hr, h0, and_self, if_true]; ring
    rw [e, segSum_sub, segSum_mul, mul_comm (segSum seg s fun _ => (1 : ℝ))]; rfl

include hT in
theorem segSum_dev (s : κ) (c : γ) :
    (segSum seg s fun r => share (T r c) (rt seg T s c) - share (T r c) (rt seg T s c) * Real.log (share (T r c) (rt seg T s c)))
      = devs seg T s c := by
  unfold devs safe
  by_cases h : 0 < rt seg T s c
  · simp only [h, if_true]
    have e : (segSum seg s fun r => share (T r c) (rt seg T s c) - share (T r c) (rt seg T s c) * Real.log (share (T r c) (rt seg T s c)))
        = segSum seg s fun r => T r c * (rt seg T s c)⁻¹ - ((T r c * slog (T r c)) * (rt seg T s c)⁻¹ - T r c * ((rt seg T s c)⁻¹ * Real.log (rt seg T s c))) :=
      segSum_congr seg fun r _ => by
        simp only [share, h.ne', and_false, if_false]
        rcases (hT r c).lt_or_eq with ht | ht
        · rw [Real.log_div ht.ne' h.ne']; simp only [slog, ht, if_true]; ring
        · rw [← ht]; simp
    rw [e, segSum_sub, segSum_sub, segSum_mul, segSum_mul, segSum_mul]
    have e2 : (segSum seg s fun r => T r c) = rt seg T s c := rfl
    have e3 : rt seg T s c * ((rt seg T s c)⁻¹ * Real.log (rt seg T s c)) = Real.log (rt seg T s c) := by rw [← mul_assoc, mul_inv_cancel₀ h.ne', one_mul]
    rw [e2, e3, mul_inv_cancel₀ h.ne', div_eq_mul_inv]; rfl
  · simp only [h, if_false]
    have h0 : rt seg T s c = 0 := le_antisymm (not_lt.1 h) (rt_nonneg seg T hT s c)
    exact segSum_congr seg fun r hr => by
      simp only [share, eq_zero_of_rt seg T hT s c h r hr, h0, and_self, if_true, Real.log_one, mul_zero, sub_zero]

include hsurj hT in
/-- The two values agree. -/
theorem value_eq (μ : κ → γ → ℝ) (eps d : ℝ) :
    refValue seg T P μ eps d = kernelValue seg T P ((Fintype.card κ : ℝ) * Fintype.card γ) eps d := by
  have hl : lse seg P μ = rp seg P := funext fun s => funext fun c => lse_eq seg P hsurj μ s c
  have a1 : ∑ r, ∑ c, (Real.exp (P r c - rp seg P (seg r) c) - share (T r c) (rt seg T (seg r) c) * (P r c - rp seg P (seg r) c))
      = ((Fintype.card κ : ℝ) * Fintype.card γ - ∑ s, ∑ c, stp seg T P s c) + ∑ s, ∑ c, rp seg P s c * segst seg T s c := by
    rw [sum_rows seg]
    have e : ∀ s c, (segSum seg s fun r => Real.exp (P r c - rp seg P (seg r) c) - share (T r c) (rt seg T (seg r) c) * (P r c - rp seg P (seg r) c))
        = (1 - stp seg T P s c) + rp seg P s c * segst seg T s c := fun s c => by
      rw [segSum_congr seg (g := fun r => Real.exp (P r c - rp seg P s c) - share (T r c) (rt seg T s c) * (P r c - rp seg P s c))
        (fun r hr => by rw [hr]), segSum_sub, segSum_exp_rp seg P hsurj, segSum_share seg T P hT]
      ring
    simp only [e, sum_add_distrib, sum_sub_distrib, sum_const, card_univ, nsmul_eq_mul, mul_one]
  have a2 : ∑ r, ∑ c, (share (T r c) (rt seg T (seg r) c) - share (T r c) (rt seg T (seg r) c) * Real.log (share (T r c) (rt seg T (seg r) c)))
      = ∑ s, ∑ c, devs seg T s c := by
    rw [sum_rows seg]
    refine sum_congr rfl fun s _ => sum_congr rfl fun c _ => ?_
    rw [← segSum_dev seg T hT]
    exact segSum_congr seg fun r hr => by rw [hr]
  unfold refValue kernelValue
  rw [hl, a1, a2]

end Cert.Math

end
-- ==== Proof.Block.lean ====
/-
  One block's contribution at the ideal values: entry (s, 64 a + c) is the sum, over the block's rows of segment s, of the
  a-th of six functions of the row's target and prediction in column c.
-/
module

public import proofs.«01_k».proof.Proof.Words
public import proofs.«01_k».proof.Proof.Scalars
public import proofs.«01_k».proof.Proof.Equation
public import Idealize.ShloMosaic.Lib.ValueIdx

@[expose] public section

noncomputable section

open Idealize.ShloMosaic Idealize.ShloMosaic.TcCoe Idealize.SL.Sem

namespace Cert.KernelIdeal.Value

open Cert.KernelIdeal Cert.KernelIdeal.Gen Cert.Segment Cert.Scalars

open Idealize.ShloMosaic.ValueIdx

/-- The six functions of a target and a prediction the accumulator sums. -/
def colOf (t p : ℝ) : Nat → ℝ
  | 0 => t
  | 1 => t * p
  | 2 => t * Cert.Math.slog t
  | 3 => p
  | 4 => Real.exp p
  | _ => 1

/-- A prediction: the row's features against the column's weights, plus the column's bias. -/
def predOf (X : Fin 2048 → Fin 1024 → ℝ) (W : Fin 1024 → Fin 64 → ℝ) (b : Fin 64 → ℝ) (k : Fin 2048) (c : Fin 64) : ℝ :=
  ∑ d, X k d * W d c + b c

section

variable (x0 : FVec Ideal S2048x1024 .f32) (x1 : FVec Ideal S2048x64 .f32) (x2 : FVec Ideal S1024x64 .f32) (x3 : FVec Ideal S1x64 .f32)
  (X : Fin 2048 → Fin 1024 → ℝ) (T : Fin 2048 → Fin 64 → ℝ) (W : Fin 1024 → Fin 64 → ℝ) (b : Fin 64 → ℝ)
  (h0 : ∀ k d, x0 (ix2 k d) = (X k d : EReal)) (h1 : ∀ k c, x1 (ix2 k c) = (T k c : EReal))
  (h2 : ∀ d c, x2 (ix2 d c) = (W d c : EReal)) (h3 : ∀ c, x3 (ix2 0 c) = (b c : EReal))

/-- The predictions of one block. -/
def preds : FVec Ideal S2048x64 .f32 :=
  addf (matmul dot_S2048x1024_S1024x64_S2048x64_1_0_0_1_n_n none x0 (shapeCast S1024x64 x2 shapeCasts_S1024x64_S1024x64) (constant S2048x64 .f32 0x00000000#32))
    (broadcastTo S2048x64 (shapeCast S1x64 x3 shapeCasts_S1x64_S1x64) broadcasts_S1x64_S2048x64)

include h0 h2 h3 in
theorem preds_apply (k : Fin 2048) (c : Fin 64) : preds x0 x2 x3 (ix2 k c) = (predOf X W b k c : EReal) := by
  unfold preds
  rw [shapeCast_self, shapeCast_self]
  show FloatOps.matmul (F := Ideal) dot_S2048x1024_S1024x64_S2048x64_1_0_0_1_n_n none x0 x2 (constant S2048x64 .f32 0x00000000#32) (ix2 k c)
    + broadcastTo S2048x64 x3 broadcasts_S1x64_S2048x64 (ix2 k c) = _
  rw [Ideal.matmul_constant_zero_apply, broadcastTo_apply x3 _ (ix2 k c) (ix2 0 c) (by intro a; fin_cases a <;> rfl), h3]
  unfold predOf
  rw [EReal.coe_add, coe_sum]
  refine congrArg (· + (b c : EReal)) ?_
  rw [← Equiv.sum_comp (contrEquiv1 dot_S2048x1024_S1024x64_S2048x64_1_0_0_1_n_n 1024 rfl rfl).symm]
  refine Finset.sum_congr rfl fun d _ => ?_
  rw [EReal.coe_mul, ← h0, ← h2]
  congr 1
  · congr 1
    funext a; apply Fin.ext
    fin_cases a <;> rfl
  · congr 1
    funext a; apply Fin.ext
    fin_cases a <;> rfl

/-- A column of the stacked block, by the piece it lies in. -/
theorem stacked_piece (k : Fin 2048) (c : Fin 64) (a : Fin 6) (h : 64 * a.val + c.val < 384) :
    k0_pay13 (F := Ideal) x0 x2 x3 x1 (ix2 k ⟨64 * a.val + c.val, h⟩)
      = (match a with
          | 0 => x1
          | 1 => mulf x1 (preds x0 x2 x3)
          | 2 => mulf x1 (log (select (cmpf .ogt x1 (broadcast S2048x64 (Scalar.ofBits .f32 0x00000000#32))) x1 (broadcast S2048x64 (Scalar.ofBits .f32 0x3F800000#32))))
          | 3 => preds x0 x2 x3
          | 4 => exp (preds x0 x2 x3)
          | 5 => broadcast S2048x64 (Scalar.ofBits .f32 0x3F800000#32) : FVec Ideal S2048x64 .f32) (ix2 k c) := by
  unfold k0_pay13
  have hi : ∀ b : Fin S2048x64.rank, b.cast (rfl : S2048x64.rank = S2048x384.rank) ≠ (1 : Fin S2048x384.rank) →
      ((ix2 k c : S2048x64.Idx) b).val = ((ix2 k ⟨64 * a.val + c.val, h⟩ : S2048x384.Idx) (b.cast rfl)).val := by
    intro b hb
    fin_cases b
    · rfl
    · exact absurd rfl hb
  match a with
  | 0 => exact concatenate_apply_piece (1 : Fin S2048x384.rank) _ _ _ 0 (by show 0 < 6; omega) S2048x64 _ rfl rfl 0 rfl (ix2 k c) hi (by simp [ix2])
  | 1 => exact concatenate_apply_piece (1 : Fin S2048x384.rank) _ _ _ 1 (by show 1 < 6; omega) S2048x64 _ rfl rfl 64 rfl (ix2 k c) hi (by simp [ix2])
  | 2 => exact concatenate_apply_piece (1 : Fin S2048x384.rank) _ _ _ 2 (by show 2 < 6; omega) S2048x64 _ rfl rfl 128 rfl (ix2 k c) hi (by simp [ix2])
  | 3 => exact concatenate_apply_piece (1 : Fin S2048x384.rank) _ _ _ 3 (by show 3 < 6; omega) S2048x64 _ rfl rfl 192 rfl (ix2 k c) hi (by simp [ix2])
  | 4 => exact concatenate_apply_piece (1 : Fin S2048x384.rank) _ _ _ 4 (by show 4 < 6; omega) S2048x64 _ rfl rfl 256 rfl (ix2 k c) hi (by simp [ix2])
  | 5 => exact concatenate_apply_piece (1 : Fin S2048x384.rank) _ _ _ 5 (by show 5 < 6; omega) S2048x64 _ rfl rfl 320 rfl (ix2 k c) hi (by simp [ix2])

include h0 h1 h2 h3 in
theorem stacked_apply (k : Fin 2048) (c : Fin 64) (a : Fin 6) (h : 64 * a.val + c.val < 384) :
    k0_pay13 (F := Ideal) x0 x2 x3 x1 (ix2 k ⟨64 * a.val + c.val, h⟩) = (colOf (T k c) (predOf X W b k c) a.val : EReal) := by
  rw [stacked_piece]
  have hp := preds_apply x0 x2 x3 X W b h0 h2 h3 k c
  match a with
  | 0 => exact h1 k c
  | 1 =>
    show x1 (ix2 k c) * preds x0 x2 x3 (ix2 k c) = _
    rw [h1, hp, ← EReal.coe_mul]; rfl
  | 2 =>
    show x1 (ix2 k c) * Ideal.log (Scalar.select (Ideal.cmp .ogt (x1 (ix2 k c)) (Ideal.ofBits .f32 0x00000000#32)) (x1 (ix2 k c)) (Ideal.ofBits .f32 0x3F800000#32)) = _
    rw [h1, word_zero, word_one, ogt_coe, select_coe, log_coe (by split <;> [assumption; exact one_pos]), ← EReal.coe_mul]
    rfl
  | 3 => exact hp
  | 4 =>
    show Ideal.exp (preds x0 x2 x3 (ix2 k c)) = _
    rw [hp, exp_coe]; rfl
  | 5 => exact word_one

/-- Which segment each row of the block is of, as zeros and ones. -/
def onehot (i : grid0.Coords) (cu : Fin 17 → BitVec 32) : FVec Ideal S16x2048 .f32 :=
  sitofp .f32 (extui 32 (cmpi .eq (iota .tc S16x2048 32 [0] iota_S16x2048_d0_w32)
    (broadcastTo S16x2048 (addi (segs (F := Ideal) i cu) (select (cmpi .sge (k0_pay14 i) (broadcast S1x2048 (cu 15))) (broadcast S1x2048 1#32) (broadcast S1x2048 0#32)))
      broadcasts_S1x2048_S16x2048)) natLt_1_32)

theorem onehot_apply (i : grid0.Coords) (cu : Fin 17 → BitVec 32) (s : Fin 16) (k : Fin 2048) :
    onehot i cu (ix2 s k) = ((if below cu (2048 * (i 0).val + k.val) = s.val then 1 else 0 : ℝ) : EReal) := by
  have eb : ∀ v : IVec S1x2048 32, broadcastTo S16x2048 v broadcasts_S1x2048_S16x2048 (ix2 s k) = v (ix2 0 k) := fun v =>
    broadcastTo_apply v _ _ _ (by intro a; fin_cases a <;> rfl)
  have es : iota .tc S16x2048 32 [0] iota_S16x2048_d0_w32 (ix2 s k) = BitVec.ofNat 32 s.val := iota_single_apply ..
  have hb := below_lt cu (2048 * (i 0).val + k.val)
  unfold onehot
  show (((((IntOp.cmpi .eq (iota .tc S16x2048 32 [0] iota_S16x2048_d0_w32 (ix2 s k))
    (broadcastTo S16x2048 (addi (segs (F := Ideal) i cu) (select (cmpi .sge (k0_pay14 i) (broadcast S1x2048 (cu 15))) (broadcast S1x2048 1#32) (broadcast S1x2048 0#32)))
      broadcasts_S1x2048_S16x2048 (ix2 s k))).setWidth 32).toInt : ℝ)) : EReal) = _
  rw [es, eb]
  show (((((IntOp.cmpi .eq (BitVec.ofNat 32 s.val)
    (IntOp.addi (segs (F := Ideal) i cu (ix2 0 k)) (Scalar.select (IntOp.cmpi .sge (k0_pay14 i (ix2 0 k)) (cu 15)) 1#32 0#32))).setWidth 32).toInt : ℝ)) : EReal) = _
  rw [seg_word]
  by_cases h : below cu (2048 * (i 0).val + k.val) = s.val
  · rw [if_pos h, h]; simp [IntOp.cmpi]
  · rw [if_neg h]
    have hs := s.isLt
    have : (BitVec.ofNat 32 s.val == BitVec.ofNat 32 (below cu (2048 * (i 0).val + k.val))) = false := by
      rw [beq_eq_false_iff_ne]
      intro e
      have e2 := congrArg BitVec.toNat e
      rw [BitVec.toNat_ofNat, BitVec.toNat_ofNat] at e2
      omega
    simp [IntOp.cmpi, this]

include h0 h1 h2 h3 in
/-- **One block's contribution.** -/
theorem part_apply (i : grid0.Coords) (cu : Fin 17 → BitVec 32) (s : Fin 16) (c : Fin 64) (a : Fin 6) (h : 64 * a.val + c.val < 384) :
    part (F := Ideal) i x0 x1 x2 x3 cu (ix2 s ⟨64 * a.val + c.val, h⟩)
      = ((∑ k : Fin 2048, if below cu (2048 * (i 0).val + k.val) = s.val then colOf (T k c) (predOf X W b k c) a.val else 0 : ℝ) : EReal) := by
  show FloatOps.matmul (F := Ideal) dot_S16x2048_S2048x384_S16x384_1_0_0_1_n_n none (onehot i cu) (k0_pay13 x0 x2 x3 x1) (constant S16x384 .f32 0x00000000#32) _ = _
  refine (Ideal.matmul_constant_zero_apply _ _ _ _ _).trans ?_
  rw [coe_sum, ← Equiv.sum_comp (contrEquiv1 dot_S16x2048_S2048x384_S16x384_1_0_0_1_n_n 2048 rfl rfl).symm]
  refine Finset.sum_congr rfl fun k _ => ?_
  have el : dot_S16x2048_S2048x384_S16x384_1_0_0_1_n_n.lhsIdx (ix2 s ⟨64 * a.val + c.val, h⟩)
      ((contrEquiv1 dot_S16x2048_S2048x384_S16x384_1_0_0_1_n_n 2048 rfl rfl).symm k) = ix2 s k := by
    funext a; apply Fin.ext
    fin_cases a <;> rfl
  have er : dot_S16x2048_S2048x384_S16x384_1_0_0_1_n_n.rhsIdx (ix2 s ⟨64 * a.val + c.val, h⟩)
      ((contrEquiv1 dot_S16x2048_S2048x384_S16x384_1_0_0_1_n_n 2048 rfl rfl).symm k) = ix2 k ⟨64 * a.val + c.val, h⟩ := by
    funext a; apply Fin.ext
    fin_cases a <;> rfl
  rw [el, er, stacked_apply x0 x1 x2 x3 X T W b h0 h1 h2 h3, onehot_apply, ← EReal.coe_mul]
  split <;> simp

end

end Cert.KernelIdeal.Value

end
-- ==== Proof.Epilogue.lean ====
/-
  The epilogue at the ideal values: from an accumulator holding the segment sums, the kernel's value over the reals.
-/
module

public import proofs.«01_k».proof.Proof.Block

@[expose] public section

noncomputable section

open Idealize.ShloMosaic Idealize.ShloMosaic.TcCoe Idealize.SL.Sem

namespace Cert.KernelIdeal.Value

open Cert.KernelIdeal Cert.KernelIdeal.Gen Cert.Scalars

open Idealize.ShloMosaic.ValueIdx

/-- The sum of a 16 × 64 array's entries, as the kernel spells it. -/
def total (x : FVec Ideal S16x64 .f32) : Ideal .f32 :=
  extractAt ![0, 0, 0] (shapeCast S1x1x1 (multiReduction .add [1, 2] S1 (shapeCast S1x16x64 x shapeCasts_S16x64_S1x16x64) 0x00000000#32 reduces_S1x16x64_S1 (.inl rfl) rfl) shapeCasts_S1_S1x1x1)
    inpos_S1x1x1_p0_0_0

theorem total_apply_real (x : FVec Ideal S16x64 .f32) (f : Fin 16 → Fin 64 → ℝ) (hx : ∀ s j, x (ix2 s j) = (f s j : EReal)) :
    total x = ((∑ s, ∑ j, f s j : ℝ) : EReal) := by
  unfold total extractAt shapeCast
  refine (Ideal.multiReduction_add_total _ _ _ (fun b => by fin_cases b; rfl) _ _ _).trans ?_
  show ∑ i : S1x16x64.Idx, x (Shape.reshapeEquiv shapeCasts_S16x64_S1x16x64 i) = _
  rw [Equiv.sum_comp (Shape.reshapeEquiv shapeCasts_S16x64_S1x16x64) x, coe_sum]
  refine (sum_idx2 x).trans (Finset.sum_congr rfl fun s _ => ?_)
  rw [coe_sum]
  exact Finset.sum_congr rfl fun j _ => hx s j

section

variable (acc : FVec Ideal S16x384 .f32) {ι : Type} [Fintype ι] (seg : ι → Fin 16) (T P : ι → Fin 64 → ℝ)
  (hacc : ∀ (s : Fin 16) (j : Fin 64) (a : Fin 6) (h : 64 * a.val + j.val < 384),
    acc (ix2 s ⟨64 * a.val + j.val, h⟩) = ((Cert.Math.segSum seg s fun r => colOf (T r j) (P r j) a.val : ℝ) : EReal))
  (hsurj : ∀ s, ∃ r, seg r = s) (hT : ∀ r j, 0 ≤ T r j)

include hacc in
theorem slice_apply (off : Nat) (hs : S16x384.Slices ![0, off] S16x64) (a : Fin 6) (ha : off = 64 * a.val) (s : Fin 16) (j : Fin 64) :
    extractStridedSlice S16x64 ![0, off] acc hs (ix2 s j) = ((Cert.Math.segSum seg s fun r => colOf (T r j) (P r j) a.val : ℝ) : EReal) := by
  have h : 64 * a.val + j.val < 384 := by have := a.isLt; have := j.isLt; omega
  rw [← hacc s j a h]
  refine extractStridedSlice_apply _ _ _ _ _ fun b => ?_
  match b with
  | ⟨0, _⟩ => exact (Nat.zero_add _).symm
  | ⟨1, _⟩ => show 64 * a.val + j.val = off + j.val; rw [ha]

include hacc in
theorem rt_apply (s : Fin 16) (j : Fin 64) : k0_pay5 (F := Ideal) acc (ix2 s j) = (Cert.Math.rt seg T s j : EReal) :=
  slice_apply acc seg T P hacc 0 slices_S16x384_o0_0_S16x64 0 rfl s j

include hacc in
theorem cnt_apply (s : Fin 16) (j : Fin 64) :
    broadcastTo S16x64 (shapeCast S16x1 (k0_pay6 (F := Ideal) acc) shapeCasts_S16x1_S16x1) broadcasts_S16x1_S16x64 (ix2 s j) = (Cert.Math.cnt seg s : EReal) := by
  rw [shapeCast_self, broadcastTo_apply _ _ (ix2 s j) (ix2 s 0) (by intro b; fin_cases b <;> rfl)]
  show extractStridedSlice S16x1 ![0, 320] acc slices_S16x384_o0_320_S16x1 (ix2 s 0) = _
  refine (extractStridedSlice_apply _ _ _ _ (ix2 s ⟨64 * (5 : Fin 6).val + (0 : Fin 64).val, by decide⟩) fun b => ?_).trans (hacc s 0 5 (by decide))
  match b with
  | ⟨0, _⟩ => exact (Nat.zero_add _).symm
  | ⟨1, _⟩ => rfl

include hacc hsurj in
theorem rp_apply (s : Fin 16) (j : Fin 64) : k0_pay7 (F := Ideal) acc (ix2 s j) = (Cert.Math.rp seg P s j : EReal) := by
  show Ideal.log (extractStridedSlice S16x64 ![0, 256] acc _ (ix2 s j)) = _
  rw [slice_apply acc seg T P hacc 256 _ 4 rfl]
  exact log_coe (Cert.Math.segSum_exp_pos seg hsurj s fun r => P r j)

include hacc in
theorem pos_apply (s : Fin 16) (j : Fin 64) : k0_pay8 (F := Ideal) acc (ix2 s j) = BitVec.ofBool (decide (0 < Cert.Math.rt seg T s j)) := by
  show Ideal.cmp .ogt (k0_pay5 (F := Ideal) acc (ix2 s j)) (Ideal.ofBits .f32 0x00000000#32) = _
  rw [rt_apply acc seg T P hacc, word_zero, ogt_coe]

include hacc in
theorem safe_apply (s : Fin 16) (j : Fin 64) : k0_pay9 (F := Ideal) acc (ix2 s j) = (Cert.Math.safe seg T s j : EReal) := by
  show Scalar.select (k0_pay8 (F := Ideal) acc (ix2 s j)) (k0_pay5 (F := Ideal) acc (ix2 s j)) (Ideal.ofBits .f32 0x3F800000#32) = _
  rw [rt_apply acc seg T P hacc, pos_apply acc seg T P hacc, word_one, select_coe]
  rfl

theorem safe_pos (s : Fin 16) (j : Fin 64) : 0 < Cert.Math.safe seg T s j := by
  unfold Cert.Math.safe
  split
  · assumption
  · exact one_pos

include hacc in
theorem stp_apply (s : Fin 16) (j : Fin 64) :
    select (k0_pay8 (F := Ideal) acc) (divf (extractStridedSlice S16x64 ![0, 64] acc slices_S16x384_o0_64_S16x64) (k0_pay9 (F := Ideal) acc))
      (extractStridedSlice S16x64 ![0, 192] acc slices_S16x384_o0_192_S16x64) (ix2 s j) = (Cert.Math.stp seg T P s j : EReal) := by
  show Scalar.select (k0_pay8 (F := Ideal) acc (ix2 s j)) (Ideal.div (extractStridedSlice S16x64 ![0, 64] acc _ (ix2 s j)) (k0_pay9 (F := Ideal) acc (ix2 s j)))
    (extractStridedSlice S16x64 ![0, 192] acc _ (ix2 s j)) = _
  rw [pos_apply acc seg T P hacc, safe_apply acc seg T P hacc, slice_apply acc seg T P hacc 64 _ 1 rfl, slice_apply acc seg T P hacc 192 _ 3 rfl,
    div_coe (safe_pos seg T s j).ne', select_coe]
  rfl

include hacc in
theorem segst_apply (s : Fin 16) (j : Fin 64) :
    select (k0_pay8 (F := Ideal) acc) (broadcast S16x64 (Scalar.ofBits .f32 0x3F800000#32))
      (broadcastTo S16x64 (shapeCast S16x1 (k0_pay6 (F := Ideal) acc) shapeCasts_S16x1_S16x1) broadcasts_S16x1_S16x64) (ix2 s j) = (Cert.Math.segst seg T s j : EReal) := by
  show Scalar.select (k0_pay8 (F := Ideal) acc (ix2 s j)) (Ideal.ofBits .f32 0x3F800000#32)
    (broadcastTo S16x64 (shapeCast S16x1 (k0_pay6 (F := Ideal) acc) shapeCasts_S16x1_S16x1) broadcasts_S16x1_S16x64 (ix2 s j)) = _
  rw [pos_apply acc seg T P hacc, cnt_apply acc seg T P hacc, word_one, select_coe]
  rfl

include hacc hsurj in
/-- The shape loss. -/
theorem pay10_eq : k0_pay10 (F := Ideal) acc
    = (((1024 - ∑ s, ∑ j, Cert.Math.stp seg T P s j) + ∑ s, ∑ j, Cert.Math.rp seg P s j * Cert.Math.segst seg T s j : ℝ) : EReal) := by
  show (Ideal.ofBits .f32 0x44800000#32 - total _) + total (mulf (k0_pay7 (F := Ideal) acc) _) = (_ : EReal)
  rw [total_apply_real _ _ (stp_apply acc seg T P hacc), total_apply_real _ (fun s j => Cert.Math.rp seg P s j * Cert.Math.segst seg T s j) fun s j => ?_,
    word_cells, ← EReal.coe_sub, ← EReal.coe_add]
  show k0_pay7 (F := Ideal) acc (ix2 s j) * _ = (_ : EReal)
  rw [rp_apply acc seg T P hacc hsurj, segst_apply acc seg T P hacc, ← EReal.coe_mul]

include hacc hsurj in
/-- The rate loss. -/
theorem pay11_eq : k0_pay11 (F := Ideal) acc
    = ((∑ s, ∑ j, (Real.exp (Cert.Math.rp seg P s j) - Cert.Math.rt seg T s j * Cert.Math.rp seg P s j) : ℝ) : EReal) := by
  show total _ = _
  refine total_apply_real _ _ fun s j => ?_
  show Ideal.exp (k0_pay7 (F := Ideal) acc (ix2 s j)) - k0_pay5 (F := Ideal) acc (ix2 s j) * k0_pay7 (F := Ideal) acc (ix2 s j) = (_ : EReal)
  rw [rp_apply acc seg T P hacc hsurj, rt_apply acc seg T P hacc, exp_coe, ← EReal.coe_mul, ← EReal.coe_sub]

include hacc in
/-- The shape deviance. -/
theorem pay12_eq : k0_pay12 (F := Ideal) acc = ((∑ s, ∑ j, Cert.Math.devs seg T s j : ℝ) : EReal) := by
  show total _ = _
  refine total_apply_real _ _ fun s j => ?_
  show Scalar.select (k0_pay8 (F := Ideal) acc (ix2 s j))
    (Ideal.ofBits .f32 0x3F800000#32 - (Ideal.div (extractStridedSlice S16x64 ![0, 128] acc slices_S16x384_o0_128_S16x64 (ix2 s j)) (k0_pay9 (F := Ideal) acc (ix2 s j)) - Ideal.log (k0_pay9 (F := Ideal) acc (ix2 s j))))
    (broadcastTo S16x64 (shapeCast S16x1 (k0_pay6 (F := Ideal) acc) shapeCasts_S16x1_S16x1) broadcasts_S16x1_S16x64 (ix2 s j)) = (_ : EReal)
  rw [pos_apply acc seg T P hacc, cnt_apply acc seg T P hacc, word_one, safe_apply acc seg T P hacc, slice_apply acc seg T P hacc 128 _ 2 rfl,
    div_coe (safe_pos seg T s j).ne', log_coe (safe_pos seg T s j), ← EReal.coe_sub, ← EReal.coe_sub, select_coe]
  rfl

include hacc hsurj hT in
/-- **The kernel's value, from a finished accumulator.** -/
theorem epi_eq (i : S1x1.Idx) : epi (F := Ideal) acc i = (Cert.Math.kernelValue seg T P 1024 eps 32768 : EReal) := by
  show Ideal.div ((k0_pay10 (F := Ideal) acc + k0_pay11 (F := Ideal) acc)
    - (k0_pay12 (F := Ideal) acc + total (subf (k0_pay5 (F := Ideal) acc) (mulf (k0_pay5 (F := Ideal) acc) (log (addf (k0_pay5 (F := Ideal) acc) (broadcast S16x64 (Ideal.ofBits .f32 0x322BCC77#32))))))))
    (Ideal.ofBits .f32 0x47000000#32) = (_ : EReal)
  rw [total_apply_real _ (fun s j => Cert.Math.rt seg T s j - Cert.Math.rt seg T s j * Real.log (Cert.Math.rt seg T s j + eps)) fun s j => ?_,
    pay10_eq acc seg T P hacc hsurj, pay11_eq acc seg T P hacc hsurj, pay12_eq acc seg T P hacc, word_rows, ← EReal.coe_add, ← EReal.coe_add, ← EReal.coe_sub, div_coe (by norm_num)]
  · rfl
  · show k0_pay5 (F := Ideal) acc (ix2 s j) - k0_pay5 (F := Ideal) acc (ix2 s j) * Ideal.log (k0_pay5 (F := Ideal) acc (ix2 s j) + Ideal.ofBits .f32 0x322BCC77#32) = (_ : EReal)
    rw [rt_apply acc seg T P hacc, word_eps, ← EReal.coe_add, log_coe (add_pos_of_nonneg_of_pos (Cert.Math.rt_nonneg seg T hT s j) eps_pos), ← EReal.coe_mul, ← EReal.coe_sub]

end

end Cert.KernelIdeal.Value

end
-- ==== Proof.Accum.lean ====
/-
  The accumulator across the grid, and the result array: after point `n` the accumulator holds the sum of the first
  `n + 1` blocks' contributions in point order, and the scalar the program returns is the epilogue of the last.
-/
module

public import proofs.«01_k».proof.Proof.Pieces
public import Idealize.ShloMosaic.Lib.StableHlo.Run
public import Idealize.ShloMosaic.Lib.Claim
public import Idealize.ShloMosaic.Lib.Quiescent

@[expose] public section

noncomputable section

open Idealize.ShloMosaic Idealize.ShloMosaic.TcCoe Idealize.SL.Sem
open Idealize.ShloMosaic.Pipeline (Dat)
open Idealize.ShloMosaic.ValueIdx

namespace Cert.KernelIdeal.Value

open Cert.KernelIdeal Cert.KernelIdeal.Gen

variable {F : FTy → Type} [FloatOps F]
variable (m : (ℓ : Loc nD τ sig) → Buf (Elt F) ℓ) (ρ : Dev nD → PrngReg)

/-- The side condition of the prefetched table holds of every contents. -/
theorem ok : Ok m := by
  unfold Ok
  trivial

/-- The contribution of block `t`. -/
def partAt (hO : Ok m) (c : Dev nD) (t : Fin (cfgM m hO).N) : FVec F S16x384 .f32 :=
  part (grid0.coords t) (iblk m hO c 0 t) (iblk m hO c 1 t) (iblk m hO c 2 t) (iblk m hO c 3 t) (cuw c (tbl m 0))

/-- The accumulator after point `n`. -/
def chain (hO : Ok m) (c : Dev nD) : (n : ℕ) → n < (cfgM m hO).N → FVec F S16x384 .f32
  | 0, h => partAt m hO c ⟨0, h⟩
  | n + 1, h => addf (chain hO c n (Nat.lt_of_succ_lt h)) (partAt m hO c ⟨n + 1, h⟩)

/-- The accumulator the grid carries is that sum. -/
theorem outsAt_eq (hO : Ok m) (c : Dev nD) : ∀ (n : ℕ) (h : n < (cfgM m hO).N), (outsAt0 m hO c n h).2 = chain m hO c n h
  | 0, h => by
    rw [show outsAt0 m hO c 0 h = _ from outsAt0_A m hO c ⟨0, h⟩ (by rfl) (by simp) (by simp)]
    dsimp only
    refine (sout_A (F := F) ..).trans ?_
    rfl
  | n + 1, h => by
    have hN : (cfgM m hO).N = 16 := N_0
    have h0 : ¬(⟨n + 1, h⟩ : Fin (cfgM m hO).N).val % 16 = 0 := by dsimp only; omega
    have h1 : 1 ≤ (⟨n + 1, h⟩ : Fin (cfgM m hO).N).val := by dsimp only; omega
    by_cases h2 : (⟨n + 1, h⟩ : Fin (cfgM m hO).N).val % 16 = 15
    · rw [outsAt0_C m hO c ⟨n + 1, h⟩ h0 h1 h2]
      dsimp only
      refine (sout_C (F := F) ..).trans ?_
      show addf (outsAt0 m hO c n _).2 _ = addf (chain m hO c n _) _
      rw [outsAt_eq hO c n]
      rfl
    · rw [outsAt0_B m hO c ⟨n + 1, h⟩ h0 h1 h2]
      dsimp only
      refine (sout_B (F := F) ..).trans ?_
      show addf (outsAt0 m hO c n _).2 _ = addf (chain m hO c n _) _
      rw [outsAt_eq hO c n]
      rfl

theorem h15 (hO : Ok m) : 15 < (cfgM m hO).N := by
  rw [show (cfgM m hO).N = 16 from N_0]; decide

/-- What the last point leaves in the output's block. -/
theorem out_eq (hO : Ok m) (c : Dev nD) : (outsAt0 m hO c 15 (h15 m hO)).1 = epi (chain m hO c 15 (h15 m hO)) := by
  rw [show outsAt0 m hO c 15 (h15 m hO) = _ from outsAt0_C m hO c ⟨15, h15 m hO⟩ (by simp) (by simp) (by simp)]
  dsimp only
  refine (out_C (F := F) ..).trans ?_
  show epi (addf (outsAt0 m hO c 14 _).2 _) = epi (addf (chain m hO c 14 _) _)
  rw [outsAt_eq m hO c 14]
  rfl

/-- The one-element array the launch leaves. -/
abbrev outArr (hO : Ok m) (c : Dev nD) : Buf (Elt F) ((c : Thread nD τ).loc main_call0_v2) := epi (chain m hO c 15 (h15 m hO))

theorem flushed_eq (hO : Ok m) (c : Dev nD) (t : Fin (cfgM m hO).N) (hf : ((cfgM m hO).win 4).flush t = true) :
    (dats m hO 0 c).flushed 4 t = (((cfgM m hO).win 4).blk t).view.read (Elt F) (outArr m hO c) := by
  have hN : (cfgM m hO).N = 16 := N_0
  have h3 : t.val = 15 := by have := (flush0_4 (adm m hO) t).mp hf; have := t.isLt; omega
  obtain rfl : t = ⟨15, h15 m hO⟩ := Fin.ext h3
  show ((cfgM m hO).win 4).cut (grid0.coords t0_15) ((dats m hO 0 c).after 4 ⟨15, h15 m hO⟩) = _
  rw [after0_4, out_eq]
  have hz' : (fun a => cc0_transform_4 (grid0.coords t0_15) a * main_call0_v2.ty.shape.size a) = fun _ => 0 := funext fun a => by fin_cases a <;> decide
  exact (Memref.read_access_unit_zero (Elt F) main_call0_v2 hz' (fun a => by rw [congrFun hz' a]; simp) (outArr m hO c)).symm

theorem inb15 (a : Fin 2) : cc0_transform_4 (grid0.coords t0_15) a * S1x1.size a + S1x1.size a ≤ S1x1.size a := by
  have h := hinb0_4 (grid0.coords t0_15) a
  rwa [Nat.add_mul, one_mul] at h

/-- The last point's block is the whole one-element array. -/
theorem cover (i : main_call0_v2.ty.Idx) :
    i ∈ ((View.whole main_call0_v2).slice (Rect.unit (s := S1x1) (fun a => cc0_transform_4 (grid0.coords t0_15) a * S1x1.size a) S1x1.size inb15)).set := by
  rw [View.set_slice_whole, Rect.mem_set_unit]
  intro a
  have h0 : (i 0 : Nat) < 1 := (i 0).isLt
  have h1 : (i 1 : Nat) < 1 := (i 1).isLt
  match a with
  | ⟨0, _⟩ => show cc0_transform_4 (grid0.coords t0_15) 0 * 1 ≤ (i 0 : Nat) ∧ (i 0 : Nat) < cc0_transform_4 (grid0.coords t0_15) 0 * 1 + 1
              rw [show cc0_transform_4 (grid0.coords t0_15) 0 = 0 from by decide +kernel]; omega
  | ⟨1, _⟩ => show cc0_transform_4 (grid0.coords t0_15) 1 * 1 ≤ (i 1 : Nat) ∧ (i 1 : Nat) < cc0_transform_4 (grid0.coords t0_15) 1 * 1 + 1
              rw [show cc0_transform_4 (grid0.coords t0_15) 1 = 0 from by decide +kernel]; omega

/-- So the array ends holding the epilogue of the finished accumulator. -/
theorem final_o (hO : Ok m) (c : Dev nD) : (dats m hO 0 c).arrAt 4 (cfgM m hO).N = outArr m hO c :=
  (dats m hO 0 c).arrAt_eq_of_cover 4 (outArr m hO c) (flushed_eq m hO c) fun i =>
    ⟨⟨15, h15 m hO⟩, (flush0_4 (adm m hO) _).mpr rfl, cover i⟩

/-- The scalar the program returns. -/
abbrev result (hO : Ok m) (c : Dev nD) : Buf (Elt F) ((c : Thread nD τ).loc main_v0) := shapeCast S_ (outArr m hO c) shapeCasts_S1x1_S_

/-- The line after the region reshapes the one-element array to the scalar. -/
theorem W_main_v0 (hO : Ok m) (c : Dev nD) :
    Pipeline.afterTail pcfgs (fun _ => adm m hO) (dats m hO) 0 (V0 m) [hostOps1] c main_v0 = result m hO c := by
  unfold Pipeline.afterTail
  simp only [hostOps1, List.flatten_cons, List.flatten_nil, List.append_nil, StableHlo.after_cons, StableHlo.after_nil]
  refine (StableHlo.reshape_result main_call0_v2 main_v0 _ _ _ _ _).trans ?_
  funext i
  show shapeCast S_ (Pipeline.withArrays spec0 c (V0 m c) (fun w => (dats m hO 0 c).arrAt w (cfgM m hO).N) (Proc.devRef .tc main_call0_v2)) _ i = _
  have e := Pipeline.withArrays_arr (τ := τ) spec0 (by decide) c (V0 m c) (fun w => (dats m hO 0 c).arrAt w (cfgM m hO).N) 4
  rw [show Pipeline.withArrays _ c (V0 m c) _ (Proc.devRef .tc main_call0_v2) = outArr m hO c from e.trans (final_o m hO c)]

/-- The run, read: the result at the epilogue of the accumulated sum, the arguments unchanged. -/
theorem run (hO : Ok m) : θ_run defs (onTc (τ := τ) (main (F := F))) ⟨m, fun _ => 0, ρ⟩ fun r => ∀ c : Dev nD,
      r.2.mem ((c.tc : Thread nD τ).loc main_v0) = result m hO c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨h.1 c, h.2 c⟩)
    (θ_run_and ((θ_run defs _ _).mono (fun r h (c : Dev nD) => (((h c).2 main_v0 (by decide : main_v0 ∈ Pipeline.restRefs sig spec0)).trans (W_main_v0 m hO c) :
      (r.2.mem ((c.tc : Thread nD τ).loc main_v0) : Buf (Elt F) _) = result m hO c)) (run_main m ρ hO)) (unchanged m ρ hO))

end Cert.KernelIdeal.Value

end
-- ==== Proof.Reads.lean ====
/-
  What the four input blocks hold at a grid point, read off the program's arguments: rows 2048 t + k of the features and of
  the targets, the transposed weights and the bias.
-/
module

public import proofs.«01_k».proof.Proof.Accum
public import Idealize.ShloMosaic.Lib.StableHlo.Run

@[expose] public section

noncomputable section

open Idealize.ShloMosaic Idealize.ShloMosaic.TcCoe Idealize.SL.Sem

namespace Cert.KernelIdeal.Value

open Cert.KernelIdeal Cert.KernelIdeal.Gen

open Idealize.ShloMosaic.ValueIdx

variable {F : FTy → Type} [FloatOps F]
variable (m : (bv : Dev nD × DevRef τ sig) → Buf (Elt F) bv)

theorem point_lt (hO : Ok m) (t : Fin (cfgM m hO).N) : t.val < 16 := by
  have h := t.isLt; have h2 : (cfgM m hO).N = 16 := N_0; omega

theorem coords_val (hO : Ok m) (t : Fin (cfgM m hO).N) : (grid0.coords t 0).val = t.val := by
  have h : (grid0.coords t 0).val = t.val / 1 % 16 := Pipeline.Grid.coords_val (G := grid0) t 0 (by decide) rfl
  have := point_lt m hO t
  omega

theorem row_lt (hO : Ok m) (t : Fin (cfgM m hO).N) (k : Fin 2048) : 2048 * t.val + k.val < 32768 := by
  have := point_lt m hO t; have := k.isLt; omega

theorem read0 (hO : Ok m) (c : Dev nD) (t : Fin (cfgM m hO).N) (k : Fin 2048) (d : Fin 1024) :
    (iblk m hO c 0 t : Vec F S2048x1024 .f32) (ix2 k d)
      = (m ((c : Thread nD τ).loc main_arg0) : Vec F S32768x1024 .f32) (ix2 ⟨2048 * t.val + k.val, row_lt m hO t k⟩ d) := by
  unfold iblk
  show V m c main_arg0 _ = _
  rw [V_main_arg0]
  congr 1
  funext a
  apply Fin.ext
  match a with
  | ⟨0, _⟩ =>
    show cc0_transform_0 (grid0.coords t) 0 * 2048 + 1 * k.val = 2048 * t.val + k.val
    have e : cc0_transform_0 (grid0.coords t) 0 = (grid0.coords t 0).val := by
      show (BitVec.ofNat 32 (grid0.coords t 0).val).toNat = _
      rw [BitVec.toNat_ofNat]; have := coords_val m hO t; have := point_lt m hO t; omega
    rw [e, coords_val]; omega
  | ⟨1, _⟩ =>
    show cc0_transform_0 (grid0.coords t) 1 * 1024 + 1 * d.val = d.val
    have e : cc0_transform_0 (grid0.coords t) 1 = 0 := rfl
    rw [e]; omega

theorem read1 (hO : Ok m) (c : Dev nD) (t : Fin (cfgM m hO).N) (k : Fin 2048) (d : Fin 64) :
    (iblk m hO c 1 t : Vec F S2048x64 .f32) (ix2 k d)
      = (m ((c : Thread nD τ).loc main_arg1) : Vec F S32768x64 .f32) (ix2 ⟨2048 * t.val + k.val, row_lt m hO t k⟩ d) := by
  unfold iblk
  show V m c main_arg1 _ = _
  rw [V_main_arg1]
  congr 1
  funext a
  apply Fin.ext
  match a with
  | ⟨0, _⟩ =>
    show cc0_transform_1 (grid0.coords t) 0 * 2048 + 1 * k.val = 2048 * t.val + k.val
    have e : cc0_transform_1 (grid0.coords t) 0 = (grid0.coords t 0).val := by
      show (BitVec.ofNat 32 (grid0.coords t 0).val).toNat = _
      rw [BitVec.toNat_ofNat]; have := coords_val m hO t; have := point_lt m hO t; omega
    rw [e, coords_val]; omega
  | ⟨1, _⟩ =>
    show cc0_transform_1 (grid0.coords t) 1 * 64 + 1 * d.val = d.val
    have e : cc0_transform_1 (grid0.coords t) 1 = 0 := rfl
    rw [e]; omega

/-- The transposed weights, as the region finds them. -/
theorem V_weights (c : Dev nD) : V m c main_call0_v0
    = transpose S1024x64 [1, 0] (m ((c : Thread nD τ).loc main_arg3) : Vec F S64x1024 .f32) transposes_S64x1024_S1024x64_1_0 := by
  show StableHlo.after (List.flatten [hostOps0]) _ _ = _
  simp only [hostOps0, List.flatten_cons, List.flatten_nil, List.append_nil, StableHlo.after_cons, StableHlo.after_nil]
  refine (StableHlo.reshape_result_ne main_arg4 main_call0_v1 _ _ _ _ _ (by decide)).trans ?_
  exact (StableHlo.unary_result main_arg3 main_call0_v0 _ _ _ _).trans rfl

theorem V_bias (c : Dev nD) : V m c main_call0_v1
    = shapeCast S1x64 (m ((c : Thread nD τ).loc main_arg4) : Vec F S64 .f32) shapeCasts_S64_S1x64 := by
  show StableHlo.after (List.flatten [hostOps0]) _ _ = _
  simp only [hostOps0, List.flatten_cons, List.flatten_nil, List.append_nil, StableHlo.after_cons, StableHlo.after_nil]
  refine (StableHlo.reshape_result main_arg4 main_call0_v1 _ _ _ _ _).trans ?_
  funext i
  show shapeCast S1x64 (HloOp.result _ _ (Proc.devRef .tc main_arg4)) _ i = _
  exact congrArg (fun x => shapeCast S1x64 x shapeCasts_S64_S1x64 i) (StableHlo.unary_result_ne main_arg3 main_call0_v0 _ _ _ _ (by decide))

theorem read2 (hO : Ok m) (c : Dev nD) (t : Fin (cfgM m hO).N) (d : Fin 1024) (j : Fin 64) :
    (iblk m hO c 2 t : Vec F S1024x64 .f32) (ix2 d j) = (m ((c : Thread nD τ).loc main_arg3) : Vec F S64x1024 .f32) (ix2 j d) := by
  unfold iblk
  show V m c main_call0_v0 _ = _
  rw [V_weights]
  refine (congrArg _ (?_ : _ = (ix2 d j : S1024x64.Idx))).trans (transpose_apply _ _ _ _ _ ?_)
  · funext a
    apply Fin.ext
    match a with
    | ⟨0, _⟩ =>
      show cc0_transform_2 (grid0.coords t) 0 * 1024 + 1 * d.val = d.val
      have e : cc0_transform_2 (grid0.coords t) 0 = 0 := rfl
      rw [e]; omega
    | ⟨1, _⟩ =>
      show cc0_transform_2 (grid0.coords t) 1 * 64 + 1 * j.val = j.val
      have e : cc0_transform_2 (grid0.coords t) 1 = 0 := rfl
      rw [e]; omega
  · intro b; fin_cases b <;> rfl

theorem read3 (hO : Ok m) (c : Dev nD) (t : Fin (cfgM m hO).N) (j : Fin 64) :
    (iblk m hO c 3 t : Vec F S1x64 .f32) (ix2 0 j) = (m ((c : Thread nD τ).loc main_arg4) : Vec F S64 .f32) (ix1 j) := by
  unfold iblk
  show V m c main_call0_v1 _ = _
  rw [V_bias]
  refine (congrArg _ (?_ : _ = (ix2 0 j : S1x64.Idx))).trans (shapeCast_apply _ _ _ _ ?_)
  · funext a
    apply Fin.ext
    match a with
    | ⟨0, _⟩ =>
      show cc0_transform_3 (grid0.coords t) 0 * 1 + 1 * 0 = 0
      have e : cc0_transform_3 (grid0.coords t) 0 = 0 := rfl
      rw [e]
    | ⟨1, _⟩ =>
      show cc0_transform_3 (grid0.coords t) 1 * 64 + 1 * j.val = j.val
      have e : cc0_transform_3 (grid0.coords t) 1 = 0 := rfl
      rw [e]; omega
  · show (S64.rowMajor (ix1 j)).val = (S1x64.rowMajor (ix2 0 j)).val
    rw [Shape.rowMajor_val_one, Shape.rowMajor_val_two]
    show j.val = 0 * 64 + j.val
    omega

/-- The boundary words are the third argument's. -/
theorem read_cu (c : Dev nD) (k : Fin 17) :
    cuw (F := F) c (tbl m 0) k = (m ((c : Thread nD τ).loc main_arg2) : Vec F S17 .i32) (ix1 k) := by
  obtain rfl : c = 0 := Subsingleton.elim _ _
  show V m (0 : Dev nD) main_arg2 _ = _
  rw [V_main_arg2]
  rfl

end Cert.KernelIdeal.Value

end
-- ==== Proof.Total.lean ====
/-
  The accumulator after the last point: entry (s, 64 a + c) is the sum over all of segment s's rows.
-/
module

public import proofs.«01_k».proof.Proof.Reads
public import proofs.«01_k».proof.Proof.Block

@[expose] public section

noncomputable section

open Idealize.ShloMosaic Idealize.ShloMosaic.TcCoe Idealize.SL.Sem

namespace Cert.Segment

/-- A row's segment. -/
def seg (cu : Fin 17 → BitVec 32) (r : Fin 32768) : Fin 16 := ⟨below cu r.val, below_lt cu r.val⟩

/-- A row's prediction in a column. -/
def pred (X : Fin 32768 → Fin 1024 → ℝ) (W : Fin 64 → Fin 1024 → ℝ) (b : Fin 64 → ℝ) (r : Fin 32768) (c : Fin 64) : ℝ :=
  ∑ d, X r d * W c d + b c

end Cert.Segment

namespace Cert.KernelIdeal.Value

open Cert.KernelIdeal Cert.KernelIdeal.Gen Cert.Segment Cert.Scalars

open Idealize.ShloMosaic.ValueIdx

variable (m : (bv : Dev nD × DevRef τ sig) → Buf (Elt Ideal) bv) (hO : Ok m) (c : Dev nD)
  (X : Fin 32768 → Fin 1024 → ℝ) (T : Fin 32768 → Fin 64 → ℝ) (cu : Fin 17 → BitVec 32) (W : Fin 64 → Fin 1024 → ℝ) (b : Fin 64 → ℝ)
  (hX : ∀ r d, (m ((c : Thread nD τ).loc main_arg0) : FVec Ideal S32768x1024 .f32) (ix2 r d) = (X r d : EReal))
  (hT : ∀ r d, (m ((c : Thread nD τ).loc main_arg1) : FVec Ideal S32768x64 .f32) (ix2 r d) = (T r d : EReal))
  (hcu : ∀ k, (m ((c : Thread nD τ).loc main_arg2) : IVec S17 32) (ix1 k) = cu k)
  (hW : ∀ j d, (m ((c : Thread nD τ).loc main_arg3) : FVec Ideal S64x1024 .f32) (ix2 j d) = (W j d : EReal))
  (hb : ∀ j, (m ((c : Thread nD τ).loc main_arg4) : FVec Ideal S64 .f32) (ix1 j) = (b j : EReal))

/-- One row's contribution to an entry, zero past the last row. -/
def contrib (s : Fin 16) (j : Fin 64) (a : Fin 6) (r : Nat) : ℝ :=
  if h : r < 32768 then (if below cu r = s.val then colOf (T ⟨r, h⟩ j) (pred X W b ⟨r, h⟩ j) a.val else 0) else 0

include hX hT hcu hW hb in
theorem partAt_apply (t : Fin (cfgM m hO).N) (s : Fin 16) (j : Fin 64) (a : Fin 6) (h : 64 * a.val + j.val < 384) :
    partAt m hO c t (ix2 s ⟨64 * a.val + j.val, h⟩)
      = ((∑ k ∈ Finset.range 2048, contrib X T cu W b s j a (2048 * t.val + k) : ℝ) : EReal) := by
  have ecu : cuw (F := Ideal) c (tbl m 0) = cu := funext fun k => (read_cu m c k).trans (hcu k)
  unfold partAt
  rw [ecu]
  refine (part_apply (iblk m hO c 0 t) (iblk m hO c 1 t) (iblk m hO c 2 t) (iblk m hO c 3 t)
    (fun k d => X ⟨2048 * t.val + k.val, row_lt m hO t k⟩ d) (fun k d => T ⟨2048 * t.val + k.val, row_lt m hO t k⟩ d) (fun d j => W j d) b
    (fun k d => (read0 m hO c t k d).trans (hX _ d)) (fun k d => (read1 m hO c t k d).trans (hT _ d))
    (fun d j => (read2 m hO c t d j).trans (hW j d)) (fun j => (read3 m hO c t j).trans (hb j)) (grid0.coords t) cu s j a h).trans ?_
  congr 1
  rw [Finset.sum_range]
  refine Finset.sum_congr rfl fun k _ => ?_
  unfold contrib
  rw [dif_pos (row_lt m hO t k), coords_val m hO t]
  rfl

include hX hT hcu hW hb in
theorem chain_apply (s : Fin 16) (j : Fin 64) (a : Fin 6) (h : 64 * a.val + j.val < 384) : ∀ (n : Nat) (hn : n < (cfgM m hO).N),
    chain m hO c n hn (ix2 s ⟨64 * a.val + j.val, h⟩)
      = ((∑ k ∈ Finset.range (2048 * (n + 1)), contrib X T cu W b s j a k : ℝ) : EReal)
  | 0, hn => by
    refine (partAt_apply m hO c X T cu W b hX hT hcu hW hb ⟨0, hn⟩ s j a h).trans ?_
    simp
  | n + 1, hn => by
    show chain m hO c n _ (ix2 s ⟨64 * a.val + j.val, h⟩) + partAt m hO c ⟨n + 1, hn⟩ (ix2 s ⟨64 * a.val + j.val, h⟩) = (_ : EReal)
    rw [chain_apply s j a h n, partAt_apply m hO c X T cu W b hX hT hcu hW hb ⟨n + 1, hn⟩ s j a h, ← EReal.coe_add,
      show 2048 * (n + 1 + 1) = 2048 * (n + 1) + 2048 by ring, Finset.sum_range_add]

include hX hT hcu hW hb in
/-- **The finished accumulator.** -/
theorem total_apply (s : Fin 16) (j : Fin 64) (a : Fin 6) (h : 64 * a.val + j.val < 384) :
    chain m hO c 15 (h15 m hO) (ix2 s ⟨64 * a.val + j.val, h⟩)
      = ((Cert.Math.segSum (seg cu) s fun r => colOf (T r j) (pred X W b r j) a.val : ℝ) : EReal) := by
  refine (chain_apply m hO c X T cu W b hX hT hcu hW hb s j a h 15 (h15 m hO)).trans ?_
  refine congrArg (fun x : ℝ => (x : EReal)) ?_
  rw [show 2048 * (15 + 1) = 32768 by norm_num, Finset.sum_range]
  unfold Cert.Math.segSum
  refine Finset.sum_congr rfl fun r _ => ?_
  unfold contrib seg
  rw [dif_pos r.isLt]
  simp only [Fin.ext_iff]

end Cert.KernelIdeal.Value

end
-- ==== Proof.Pre.lean ====
/-
  The precondition read back, and what it says of the boundaries: the rows' segment numbers reach every segment.
-/
module

public import proofs.«01_k».proof.Defs
public import proofs.«01_k».proof.Proof.Total
public import Idealize.ShloMosaic.Lib.ReduceAll

@[expose] public section

noncomputable section

open Idealize.ShloMosaic Idealize.ShloMosaic.TcCoe Idealize.SL.Sem

namespace Cert.Segment

open Idealize.ShloMosaic.ValueIdx

/-- Boundaries from zero to the number of rows, strictly increasing. -/
structure Bounds (cu : Fin 17 → BitVec 32) : Prop where
  first : (cu 0).toInt = 0
  last : (cu 16).toInt = 32768
  mono : StrictMono fun k => (cu k).toInt

variable {cu : Fin 17 → BitVec 32} (hB : Bounds cu)

include hB in
theorem seg_surjective (s : Fin 16) : ∃ r, seg cu r = s := by
  have h0 : (cu 0).toInt ≤ (cu s.castSucc).toInt := hB.mono.monotone (Fin.zero_le _)
  have h1 : (cu s.castSucc).toInt < (cu 16).toInt := hB.mono (Fin.castSucc_lt_last s)
  rw [hB.first] at h0
  rw [hB.last] at h1
  refine ⟨⟨(cu s.castSucc).toInt.toNat, by omega⟩, Fin.ext ?_⟩
  show below cu (cu s.castSucc).toInt.toNat = s.val
  have hp : ∀ k, past (cu k) (cu s.castSucc).toInt.toNat = if k ≤ s.castSucc then 1 else 0 := fun k => by
    unfold past
    have : (cu k).toInt ≤ (cu s.castSucc).toInt ↔ k ≤ s.castSucc := hB.mono.le_iff_le
    rw [Int.toNat_of_nonneg h0]
    simp only [this]
  unfold below
  simp only [hp]
  clear hp h0 h1
  revert s
  decide

include hB in
/-- Counting all seventeen boundaries counts one more than the inner ones. -/
theorem sum_past (r : Fin 32768) : ∑ k, past (cu k) r.val = below cu r.val + 1 := by
  have h0 : past (cu 0) r.val = 1 := by unfold past; rw [hB.first]; exact if_pos (by omega)
  have h1 : past (cu 16) r.val = 0 := by unfold past; rw [hB.last]; exact if_neg (by have := r.isLt; omega)
  unfold below
  simp only [Fin.sum_univ_succ, Finset.univ_eq_empty, Finset.sum_empty]
  show past (cu 0) r.val + (past (cu 1) r.val + (past (cu 2) r.val + (past (cu 3) r.val + (past (cu 4) r.val + (past (cu 5) r.val
    + (past (cu 6) r.val + (past (cu 7) r.val + (past (cu 8) r.val + (past (cu 9) r.val + (past (cu 10) r.val + (past (cu 11) r.val
    + (past (cu 12) r.val + (past (cu 13) r.val + (past (cu 14) r.val + (past (cu 15) r.val + (past (cu 16) r.val + 0)))))))))))))))) = _
  omega

end Cert.Segment

namespace Cert.Pre_ragged

open Idealize.ShloMosaic.ValueIdx

variable [Facts]

theorem ofBool_one {p : Bool} (h : BitVec.ofBool p = 1#1) : p = true := by cases p <;> simp_all

theorem andi_split {a b : IVec S_ 1} (h : andi a b ix0 = 1#1) : a ix0 = 1#1 ∧ b ix0 = 1#1 := IntOp.andi_eq_one.1 h

/-- An array between two constants, read back. -/
theorem between {s : Shape} {axes : List (Fin s.rank)} (p q : IVec s 1) (init : IVec S_ 1)
    (hr : s.ReducesTo axes S_) (hu : 0 < S_.numel) (h : Host.reduce IntOp.andi (andi p q) init hr hu ix0 = 1#1) (i : s.Idx) :
    p i = 1#1 ∧ q i = 1#1 :=
  haveI : Subsingleton S_.Idx := ⟨fun _ _ => funext fun a => a.elim0⟩
  IntOp.andi_eq_one.1 (Host.reduce_andi_all _ _ hr hu ix0 h i)

theorem gt_of {x y : EReal} (h : Ideal.cmp .ogt x y = 1#1) : x > y := of_decide_eq_true (ofBool_one h)
theorem lt_of {x y : EReal} (h : Ideal.cmp .olt x y = 1#1) : x < y := of_decide_eq_true (ofBool_one h)
theorem ge_of {x y : EReal} (h : Ideal.cmp .oge x y = 1#1) : x ≥ y := of_decide_eq_true (ofBool_one h)

/-- What the precondition says. -/
theorem decode (a0 : FVec Ideal S32768x1024 .f32) (a1 : FVec Ideal S32768x64 .f32) (a2 : IVec S17 32) (a3 : FVec Ideal S64x1024 .f32)
    (a4 : FVec Ideal S64 .f32) (h : fn (F := Ideal) a0 a1 a2 a3 a4 = fun _ => 1#1) :
    (∀ i, a0 i > (⊥ : EReal) ∧ a0 i < (⊤ : EReal)) ∧ (∀ i, a1 i ≥ (0 : EReal) ∧ a1 i < (⊤ : EReal))
      ∧ (∀ i, a3 i > (⊥ : EReal) ∧ a3 i < (⊤ : EReal)) ∧ (∀ i, a4 i > (⊥ : EReal) ∧ a4 i < (⊤ : EReal))
      ∧ Cert.Segment.Bounds fun k => a2 (ix1 k) := by
  have e := congrFun h ix0
  unfold fn fn_part1 fn_part2 at e
  dsimp only at e
  obtain ⟨e, h38⟩ := andi_split e
  obtain ⟨e, h33⟩ := andi_split e
  obtain ⟨e, h29⟩ := andi_split e
  obtain ⟨e, h25⟩ := andi_split e
  obtain ⟨e, h18⟩ := andi_split e
  obtain ⟨h5, h11⟩ := andi_split e
  have hb : Ideal.ofBits .f32 0xFF800000#32 = ⊥ := Cert.Scalars.word_bot
  have ht : Ideal.ofBits .f32 0x7F800000#32 = ⊤ := Cert.Scalars.word_top
  have hz : Ideal.ofBits .f32 0x00000000#32 = 0 := by simp
  refine ⟨fun i => ?_, fun i => ?_, fun i => ?_, fun i => ?_, ?_⟩
  · obtain ⟨p, q⟩ := between _ _ _ _ _ h5 i
    exact ⟨hb ▸ gt_of p, ht ▸ lt_of q⟩
  · obtain ⟨p, q⟩ := between _ _ _ _ _ h11 i
    exact ⟨hz ▸ ge_of p, ht ▸ lt_of q⟩
  · obtain ⟨p, q⟩ := between _ _ _ _ _ h18 i
    exact ⟨hb ▸ gt_of p, ht ▸ lt_of q⟩
  · obtain ⟨p, q⟩ := between _ _ _ _ _ h25 i
    exact ⟨hb ▸ gt_of p, ht ▸ lt_of q⟩
  · have one : ∀ i j : S1.Idx, i = j := by decide
    have e0 : a2 (ix1 0) = 0#32 := by
      refine Eq.trans ?_ (eq_of_beq (ofBool_one h29))
      refine Eq.symm ((congrArg _ (one _ (ix1 0))).trans (extractStridedSlice_apply _ _ _ _ _ fun b => ?_))
      match b with
      | ⟨0, _⟩ => rfl
    have e16 : a2 (ix1 16) = 32768#32 := by
      refine Eq.trans ?_ (eq_of_beq (ofBool_one h33))
      refine Eq.symm ((congrArg _ (one _ (ix1 0))).trans (extractStridedSlice_apply _ _ _ _ _ fun b => ?_))
      match b with
      | ⟨0, _⟩ => rfl
    refine ⟨by show (a2 (ix1 0)).toInt = 0; rw [e0]; decide, by show (a2 (ix1 16)).toInt = 32768; rw [e16]; decide, Fin.strictMono_iff_lt_succ.2 fun k => ?_⟩
    haveI : Subsingleton S_.Idx := ⟨fun _ _ => funext fun a => a.elim0⟩
    have hk := IntOp.cmpi_slt.1 (Host.reduce_andi_all _ _ _ _ ix0 h38 (ix1 k))
    rw [extractStridedSlice_apply _ _ _ _ (ix1 k.castSucc) fun b => match b with | ⟨0, _⟩ => by show k.val = 0 + k.val; omega,
      extractStridedSlice_apply _ _ _ _ (ix1 k.succ) fun b => match b with | ⟨0, _⟩ => by show k.val + 1 = 1 + k.val; omega] at hk
    exact hk

end Cert.Pre_ragged
-- ==== Proof.Scatter.lean ====
/-
  Adding the rows of one array into the rows of another, each row where an index word says: what an entry comes to.
-/
module

public import Idealize.ShloMosaic.Lib.Routing.Ops
public import Idealize.ShloMosaic.PureOps.Ideal

@[expose] public section

noncomputable section

open Idealize.ShloMosaic Idealize.ShloMosaic.ValueIdx

namespace Cert.Rows

variable {nb B n : Nat} (d : ScatterDims (⟨2, ![nb, B]⟩ : Shape) (⟨2, ![n, 1]⟩ : Shape) (⟨2, ![n, B]⟩ : Shape))
  (huw : d.updateWindowDims = [1]) (hiw : d.insertedWindowDims = [0]) (hsd : d.scatterDimsToOperandDims = [0]) (hivd : d.indexVectorDim = 1)

include huw hiw hsd hivd

/-- Entry (r, y) of the rows added lands at entry (s, j) exactly when row r's word is s and y is j. -/
theorem lands (idx : IVec (⟨2, ![n, 1]⟩ : Shape) 32) (r : Fin n) (y : Fin B) (s : Fin nb) (j : Fin B) :
    d.resultIdx? (ix2 r y) idx = some (ix2 s j) ↔ (idx (ix2 r (0 : Fin 1))).toInt = (s.val : Int) ∧ y = j := by
  have hm : (0 : Fin 2) ∈ d.scatterDimsToOperandDims := by rw [hsd]; exact List.mem_singleton.2 rfl
  have hm1 : (1 : Fin 2) ∉ d.scatterDimsToOperandDims := by
    rw [hsd]; exact fun h => Nat.one_ne_zero (congrArg Fin.val (List.mem_singleton.1 h))
  have e0 : ∀ X : Fin 2, X = 0 → (ix2 r y X).val = r.val := fun X h => by subst h; rfl
  have e1 : ∀ X : Fin 2, X = 1 → (ix2 r y X).val = y.val := fun X h => by subst h; rfl
  have hk0 : ∀ k ∈ d.uScatter, k = (0 : Fin 2) := fun k hk => by
    have hk' : k ∉ d.updateWindowDims := of_decide_eq_true (List.mem_filter.1 hk).2
    rw [huw] at hk'
    have h1 : k.val ≠ 1 := fun e => hk' (List.mem_singleton.2 (Fin.ext e))
    have h2 : k.val < 2 := k.isLt
    exact Fin.ext (by show k.val = 0; omega)
  have hk1 : ∀ k ∈ d.updateWindowDims, k = (1 : Fin 2) := fun k hk => by rw [huw] at hk; exact List.mem_singleton.1 hk
  have hwin0 : d.window (ix2 r y) 0 = 0 := by
    unfold ScatterDims.window
    rw [dif_neg fun h => (of_decide_eq_true (List.mem_filter.1 h).2) (by rw [hiw]; exact List.mem_singleton.2 rfl)]
  have hs1 : (1 : Fin 2) ∈ d.sKept := List.mem_filter.2 ⟨List.mem_finRange _, decide_eq_true (by
    rw [hiw]; exact fun h => Nat.one_ne_zero (congrArg Fin.val (List.mem_singleton.1 h)))⟩
  have hwin1 : d.window (ix2 r y) 1 = y.val := by
    unfold ScatterDims.window
    rw [dif_pos hs1]
    exact e1 _ (hk1 _ (List.getElem_mem _))
  have hstart0 : d.start (ix2 r y) idx 0 = (idx (ix2 r (0 : Fin 1))).toInt := by
    unfold ScatterDims.start
    rw [dif_pos hm]
    have hsi : d.siIdx (ix2 r y) ⟨d.scatterDimsToOperandDims.idxOf 0, List.idxOf_lt_length_iff.2 hm⟩ = ix2 r (0 : Fin 1) := by
      funext b'
      apply Fin.ext
      match b' with
      | ⟨0, _⟩ =>
        unfold ScatterDims.siIdx
        rw [dif_neg (by rw [hivd]; exact Nat.zero_ne_one)]
        unfold ScatterDims.siCoord
        simp only [Fin.val_cast]
        exact e0 _ (hk0 _ (List.getElem_mem _))
      | ⟨1, _⟩ =>
        unfold ScatterDims.siIdx
        rw [dif_pos (by rw [hivd])]
        show List.idxOf (0 : Fin 2) d.scatterDimsToOperandDims = 0
        rw [hsd]; simp
    rw [hsi]
  have hstart1 : d.start (ix2 r y) idx 1 = 0 := by
    unfold ScatterDims.start
    rw [dif_neg hm1]
  have hsb := s.isLt
  have hyb := y.isLt
  unfold ScatterDims.resultIdx?
  split
  · next h =>
    have h0 := h 0
    change 0 ≤ d.start (ix2 r y) idx 0 + (d.window (ix2 r y) 0 : Int) ∧ d.start (ix2 r y) idx 0 + (d.window (ix2 r y) 0 : Int) < (nb : Int) at h0
    rw [hstart0, hwin0] at h0
    constructor
    · intro e
      have e0' := congrArg Fin.val (congrFun (Option.some.inj e) 0)
      have e1' := congrArg Fin.val (congrFun (Option.some.inj e) 1)
      change (d.start (ix2 r y) idx 0 + (d.window (ix2 r y) 0 : Int)).toNat = s.val at e0'
      change (d.start (ix2 r y) idx 1 + (d.window (ix2 r y) 1 : Int)).toNat = j.val at e1'
      rw [hstart0, hwin0] at e0'
      rw [hstart1, hwin1] at e1'
      exact ⟨by omega, Fin.ext (by omega)⟩
    · rintro ⟨e, rfl⟩
      refine congrArg some (funext fun a => Fin.ext ?_)
      match a with
      | ⟨0, _⟩ =>
        show (d.start (ix2 r y) idx 0 + (d.window (ix2 r y) 0 : Int)).toNat = s.val
        rw [hstart0, hwin0]
        omega
      | ⟨1, _⟩ =>
        show (d.start (ix2 r y) idx 1 + (d.window (ix2 r y) 1 : Int)).toNat = y.val
        rw [hstart1, hwin1]
        omega
  · next h =>
    constructor
    · intro e; cases e
    · rintro ⟨e, rfl⟩
      refine (h fun a => ?_).elim
      match a with
      | ⟨0, _⟩ =>
        show 0 ≤ d.start (ix2 r y) idx 0 + (d.window (ix2 r y) 0 : Int) ∧ d.start (ix2 r y) idx 0 + (d.window (ix2 r y) 0 : Int) < (nb : Int)
        rw [hstart0, hwin0]
        omega
      | ⟨1, _⟩ =>
        show 0 ≤ d.start (ix2 r y) idx 1 + (d.window (ix2 r y) 1 : Int) ∧ d.start (ix2 r y) idx 1 + (d.window (ix2 r y) 1 : Int) < (B : Int)
        rw [hstart1, hwin1]
        omega

/-- An entry of the sum: the array's own entry and the entries of the rows whose word names its row. -/
theorem scatterAdd_row (x : (⟨2, ![nb, B]⟩ : Shape).Idx → EReal) (idx : IVec (⟨2, ![n, 1]⟩ : Shape) 32)
    (upd : (⟨2, ![n, B]⟩ : Shape).Idx → EReal) (s : Fin nb) (j : Fin B) :
    Ideal.hostScatterAdd d x idx upd (ix2 s j)
      = x (ix2 s j) + ∑ r : Fin n, if (idx (ix2 r (0 : Fin 1))).toInt = (s.val : Int) then upd (ix2 r j) else 0 := by
  unfold Ideal.hostScatterAdd
  refine congrArg (x (ix2 s j) + ·) ?_
  rw [Finset.sum_filter, sum_idx2]
  refine Finset.sum_congr rfl fun r _ => ?_
  simp only [lands d huw hiw hsd hivd]
  by_cases h : (idx (ix2 r (0 : Fin 1))).toInt = (s.val : Int)
  · simp only [h, true_and, if_true]
    rw [Finset.sum_ite_eq' Finset.univ j fun y => upd (ix2 r y)]
    simp
  · simp [h]

end Cert.Rows
-- ==== Proof.Refer.lean ====
/-
  The reference's intermediate arrays at an index, on arguments that hold the numbers X, T, W, b and the boundaries cu.
-/
module

public import proofs.«01_k».proof.Proof.Gen.ReferenceIdeal.Read
public import proofs.«01_k».proof.Proof.Pre
public import proofs.«01_k».proof.Proof.Scatter
public import proofs.«01_k».proof.Proof.Equation

@[expose] public section

noncomputable section

open Idealize.ShloMosaic Idealize.ShloMosaic.TcCoe Idealize.SL.Sem

namespace Cert.ReferenceIdeal.Read

open Cert.ReferenceIdeal Cert.ReferenceIdeal.Gen Cert.Segment Cert.Scalars Cert.Math Idealize.ShloMosaic.ValueIdx

variable (x0 : FVec Ideal S32768x1024 .f32) (x1 : FVec Ideal S32768x64 .f32) (x2 : IVec S17 32) (x3 : FVec Ideal S64x1024 .f32)
  (x4 : FVec Ideal S64 .f32)
  (X : Fin 32768 → Fin 1024 → ℝ) (T : Fin 32768 → Fin 64 → ℝ) (cu : Fin 17 → BitVec 32) (W : Fin 64 → Fin 1024 → ℝ) (b : Fin 64 → ℝ)

/-! ## The segment numbers -/

section Segments

variable {x2} {cu} (hcu : ∀ k, x2 (ix1 k) = cu k) (hB : Bounds cu)

include hcu in
theorem v6_at (r : Fin 32768) (k : Fin 17) : val_main_v6 (F := Ideal) x2 (ix2 r k) = BitVec.ofNat 32 (past (cu k) r.val) := by
  rw [val_main_v6_apply, val_main_v5_apply, val_main_v3_apply, val_main_v1_apply, val_main_v4_apply, val_main_v2_apply, val_main_v0_apply]
  have e1 : idx_main_v1 (idx_main_v3 (ix2 r k)) = ix1 k := funext fun a => match a with | ⟨0, _⟩ => rfl
  rw [e1, hcu]
  show (BitVec.ofBool (decide ((cu k).toInt ≤ (BitVec.ofNat 32 r.val).toInt))).setWidth 32 = _
  rw [toInt_ofNat (by have := r.isLt; omega)]
  unfold past
  by_cases h : (cu k).toInt ≤ (r.val : Int) <;> simp [h]

include hcu hB in
theorem v7_at (r : Fin 32768) : val_main_v7 (F := Ideal) x2 (ix1 r) = BitVec.ofNat 32 (below cu r.val + 1) := by
  unfold val_main_v7
  have hR : S32768x17.Reduces [1] S32768 := by decide
  rw [Host.reduce_eq_fold_single IntOp.addi _ _ reducesTo_S32768x17_S32768_d1 hR h_S_]
  have hl : ∀ k : Fin 17, hR.lift (ix1 r) k = ix2 r k := fun k => funext fun a => Fin.ext (by
    match a with
    | ⟨0, _⟩ => rfl
    | ⟨1, _⟩ => rfl)
  have hf : (val_main_v6 (F := Ideal) x2 ∘ hR.lift (ix1 r)) = fun k : Fin 17 => BitVec.ofNat 32 (past (cu k) r.val) :=
    funext fun k => (congrArg _ (hl k)).trans (v6_at hcu r k)
  rw [hf, ← sum_past hB r]
  exact Finset.fold_hom (op := (· + ·)) (op' := IntOp.addi) (m := BitVec.ofNat 32) (b := 0) fun x y => BitVec.ofNat_add x y

include hcu hB in
theorem v9_at (r : Fin 32768) : val_main_v9 (F := Ideal) x2 (ix1 r) = BitVec.ofNat 32 (seg cu r).val := by
  rw [val_main_v9_apply, v7_at hcu hB, val_main_v8_apply]
  show BitVec.ofNat 32 (below cu r.val + 1) - 1#32 = BitVec.ofNat 32 (below cu r.val)
  rw [BitVec.ofNat_add, BitVec.add_sub_cancel]

include hcu hB in
theorem v9_toInt (r : Fin 32768) : (val_main_v9 (F := Ideal) x2 (ix1 r)).toInt = (seg cu r).val := by
  rw [v9_at hcu hB, toInt_ofNat (by have := (seg cu r).isLt; omega)]

/-- A number that is not negative is kept where a negative one would be counted from the end. -/
theorem keep {w v z : BitVec 32} (hz : z = 0#32) (h : 0 ≤ w.toInt) : Scalar.select (IntOp.cmpi .slt w z) v w = w := by
  subst hz
  have : ¬ w.toInt < 0 := not_lt.2 h
  simp [Scalar.select, IntOp.cmpi, BitVec.slt, this]

theorem row_idx (r : Fin 32768) : (fun a => match a with | ⟨0, _⟩ => ⟨((ix2 r (0 : Fin 1) : S32768x1.Idx) 0).val, ((ix2 r (0 : Fin 1) : S32768x1.Idx) 0).isLt⟩ : S32768.Idx) = ix1 r :=
  funext fun a => match a with | ⟨0, _⟩ => rfl

include hcu hB

theorem v30_at (r : Fin 32768) : val_main_v30 (F := Ideal) x2 (ix2 r 0) = BitVec.ofNat 32 (seg cu r).val := by
  rw [val_main_v30_apply, val_main_v29_apply, val_main_v26_apply, val_main_v25_apply, val_main_c_2_apply]
  rw [show idx_main_v30 (ix2 r 0) = ix1 r from row_idx r, keep rfl (by rw [v9_toInt hcu hB]; omega), v9_at hcu hB]

theorem v47_at (r : Fin 32768) : val_main_v47 (F := Ideal) x2 (ix2 r 0) = BitVec.ofNat 32 (seg cu r).val := by
  rw [val_main_v47_apply, val_main_v46_apply, val_main_v43_apply, val_main_v42_apply, val_main_c_6_apply]
  rw [show idx_main_v47 (ix2 r 0) = ix1 r from row_idx r, keep rfl (by rw [v9_toInt hcu hB]; omega), v9_at hcu hB]

theorem v72_at (r : Fin 32768) : val_main_v72 (F := Ideal) x2 (ix2 r 0) = BitVec.ofNat 32 (seg cu r).val := by
  rw [val_main_v72_apply, val_main_v71_apply, val_main_v68_apply, val_main_v67_apply, val_main_c_14_apply]
  rw [show idx_main_v72 (ix2 r 0) = ix1 r from row_idx r, keep rfl (by rw [v9_toInt hcu hB]; omega), v9_at hcu hB]

theorem v35_at (r : Fin 32768) : (val_main_v35 (F := Ideal) x2 (ix2 r 0)).toInt = (seg cu r).val := by
  rw [val_main_v35_apply, show idx_main_v35 (ix2 r 0) = ix1 r from row_idx r, v9_toInt hcu hB]

theorem v40_at (r : Fin 32768) : (val_main_v40 (F := Ideal) x2 (ix2 r 0)).toInt = (seg cu r).val := by
  rw [val_main_v40_apply, show idx_main_v40 (ix2 r 0) = ix1 r from row_idx r, v9_toInt hcu hB]

theorem v20_at (r : Fin 32768) (s : Fin 16) : val_main_v20 (F := Ideal) x2 (ix2 r s) = BitVec.ofBool (decide (seg cu r = s)) := by
  rw [val_main_v20_apply, val_main_v18_apply, val_main_v15_apply]
  have e : idx_main_v15 (idx_main_v18 (ix2 r s)) = ix1 r := funext fun a => match a with | ⟨0, _⟩ => rfl
  rw [e, v9_at hcu hB]
  have e2 : val_main_v19 (F := Ideal) (ix2 r s) = BitVec.ofNat 32 s.val := by
    rw [val_main_v19_apply, val_main_v17_apply, val_main_v16_apply]
  rw [e2]
  have h1 := (seg cu r).isLt
  have h2 := s.isLt
  unfold IntOp.cmpi
  by_cases h : seg cu r = s
  · simp [h]
  · have : ¬ BitVec.ofNat 32 (seg cu r).val = BitVec.ofNat 32 s.val := fun e => h (Fin.ext (by
      have := congrArg BitVec.toNat e
      rw [BitVec.toNat_ofNat, BitVec.toNat_ofNat] at this
      omega))
    rw [decide_eq_false h]
    exact congrArg BitVec.ofBool (beq_eq_false_iff_ne.2 this)

end Segments

/-! ## The predictions and the largest one of each segment -/

section Predictions

variable {x0 x2 x3 x4} {X} {cu} {W} {b}
  (hX : ∀ r d, x0 (ix2 r d) = (X r d : EReal)) (hW : ∀ j d, x3 (ix2 j d) = (W j d : EReal)) (hb : ∀ j, x4 (ix1 j) = (b j : EReal))
  (hcu : ∀ k, x2 (ix1 k) = cu k) (hB : Bounds cu)

include hX hW hb in
theorem v14_at (r : Fin 32768) (j : Fin 64) : val_main_v14 (F := Ideal) x0 x3 x4 (ix2 r j) = (pred X W b r j : EReal) := by
  rw [val_main_v14_apply, val_main_v11_apply, val_main_v13_apply, val_main_v12_apply]
  have e1 : idx_main_v12 (idx_main_v13 (ix2 r j)) = ix1 j := funext fun a => match a with | ⟨0, _⟩ => rfl
  rw [e1, hb]
  have e2 : ∀ k, x0 (lidx_main_v11 (ix2 r j) k) * val_main_v10 (F := Ideal) x3 (ridx_main_v11 (ix2 r j) k) = ((X r k * W j k : ℝ) : EReal) := fun k => by
    rw [val_main_v10_apply]
    have e3 : lidx_main_v11 (ix2 r j) k = ix2 r k := funext fun a => match a with | ⟨0, _⟩ => rfl | ⟨1, _⟩ => rfl
    have e4 : idx_main_v10 (ridx_main_v11 (ix2 r j) k) = ix2 j k := funext fun a => match a with | ⟨0, _⟩ => rfl | ⟨1, _⟩ => rfl
    rw [e3, e4, hX, hW, EReal.coe_mul]
  rw [Finset.sum_congr rfl fun k _ => e2 k, ← coe_sum]
  exact (EReal.coe_add _ _).symm

include hX hW hb hcu hB in
theorem v23_at (r : Fin 32768) (s : Fin 16) (j : Fin 64) :
    val_main_v23 (F := Ideal) x0 x2 x3 x4 (ix3 r s j) = if seg cu r = s then (pred X W b r j : EReal) else ⊥ := by
  rw [val_main_v23_apply, val_main_call0_v1_apply, val_main_v21_apply, val_main_call0_v2_apply, val_main_v22_apply, val_main_call0_v3_apply]
  have e1 : idx_main_v21 (idx_main_call0_v1 (ix3 r s j)) = ix2 r s := funext fun a => match a with | ⟨0, _⟩ => rfl | ⟨1, _⟩ => rfl
  have e2 : idx_main_v22 (idx_main_call0_v2 (ix3 r s j)) = ix2 r j := funext fun a => match a with | ⟨0, _⟩ => rfl | ⟨1, _⟩ => rfl
  rw [e1, e2, v20_at hcu hB, v14_at hX hW hb, select_prop]
  rw [show val_main_call0_v0 (F := Ideal) (idx_main_call0_v3 (ix3 r s j)) = (⊥ : EReal) from word_bot]

theorem max_at (x : FVec Ideal S32768x16x64 .f32) (init : FVec Ideal S_ .f32) (s : Fin 16) (j : Fin 64) (f : Fin 32768 → EReal)
    (hx : ∀ r, x (ix3 r s j) = f r) :
    Host.reduce FloatOps.maximumf x init reducesTo_S32768x16x64_S16x64_d0 h_S_ (ix2 s j)
      = (Finset.univ : Finset (Fin 32768)).fold max (init (Shape.Idx.first h_S_)) f := by
  have hR : S32768x16x64.Reduces [0] S16x64 := by decide
  rw [Host.reduce_eq_fold_single FloatOps.maximumf _ _ reducesTo_S32768x16x64_S16x64_d0 hR h_S_]
  have hl : ∀ k : Fin 32768, hR.lift (ix2 s j) k = ix3 k s j := fun k => funext fun a => Fin.ext (by
    match a with
    | ⟨0, _⟩ => rfl
    | ⟨1, _⟩ => rfl
    | ⟨2, _⟩ => rfl)
  have hf : x ∘ hR.lift (ix2 s j) = f := funext fun k => by
    show x (hR.lift (ix2 s j) k) = f k
    rw [hl k, hx k]
  rw [hf]
  rfl

include hX hW hb hcu hB in
/-- The largest prediction of a segment is a number. -/
theorem v24_real : ∃ μ : Fin 16 → Fin 64 → ℝ, ∀ s j, val_main_v24 (F := Ideal) x0 x2 x3 x4 (ix2 s j) = (μ s j : EReal) := by
  have h : ∀ s j, ∃ x : ℝ, val_main_v24 (F := Ideal) x0 x2 x3 x4 (ix2 s j) = (x : EReal) := fun s j => by
    have e : val_main_v24 (F := Ideal) x0 x2 x3 x4 (ix2 s j)
        = (Finset.univ : Finset (Fin 32768)).fold max (⊥ : EReal) fun r => if seg cu r = s then (pred X W b r j : EReal) else ⊥ := by
      unfold val_main_v24
      rw [max_at _ _ s j _ fun r => v23_at hX hW hb hcu hB r s j, show val_main_cst_1 (F := Ideal) (Shape.Idx.first h_S_) = (⊥ : EReal) from word_bot]
    obtain ⟨r, hr⟩ := seg_surjective hB s
    have hlo : (⊥ : EReal) < val_main_v24 (F := Ideal) x0 x2 x3 x4 (ix2 s j) := by
      rw [e]
      refine (Finset.lt_fold_max _).2 (Or.inr ⟨r, Finset.mem_univ r, ?_⟩)
      rw [if_pos hr]
      exact EReal.bot_lt_coe _
    have hhi : val_main_v24 (F := Ideal) x0 x2 x3 x4 (ix2 s j) < (⊤ : EReal) := by
      rw [e]
      refine (Finset.fold_max_lt _).2 ⟨bot_lt_top, fun r _ => ?_⟩
      split
      · exact EReal.coe_lt_top _
      · exact bot_lt_top
    exact ⟨_, (EReal.coe_toReal hhi.ne hlo.ne').symm⟩
  choose μ hμ using h
  exact ⟨μ, hμ⟩

end Predictions

end Cert.ReferenceIdeal.Read
-- ==== Proof.Result.lean ====
/-
  The reference's result: the value of `Cert.Math.refValue` at the numbers its arguments hold.
-/
module

public import proofs.«01_k».proof.Proof.Refer

@[expose] public section

noncomputable section

open Idealize.ShloMosaic Idealize.ShloMosaic.TcCoe Idealize.SL.Sem

namespace Cert.ReferenceIdeal.Read

open Cert.ReferenceIdeal Cert.ReferenceIdeal.Gen Cert.Segment Cert.Scalars Cert.Math Idealize.ShloMosaic.ValueIdx

variable {x0 : FVec Ideal S32768x1024 .f32} {x1 : FVec Ideal S32768x64 .f32} {x2 : IVec S17 32} {x3 : FVec Ideal S64x1024 .f32}
  {x4 : FVec Ideal S64 .f32}
  {X : Fin 32768 → Fin 1024 → ℝ} {T : Fin 32768 → Fin 64 → ℝ} {cu : Fin 17 → BitVec 32} {W : Fin 64 → Fin 1024 → ℝ} {b : Fin 64 → ℝ}
  {μ : Fin 16 → Fin 64 → ℝ}
  (hX : ∀ r d, x0 (ix2 r d) = (X r d : EReal)) (hT : ∀ r j, x1 (ix2 r j) = (T r j : EReal))
  (hW : ∀ j d, x3 (ix2 j d) = (W j d : EReal)) (hb : ∀ j, x4 (ix1 j) = (b j : EReal))
  (hcu : ∀ k, x2 (ix1 k) = cu k) (hB : Bounds cu) (h0 : ∀ r j, 0 ≤ T r j)
  (hμ : ∀ s j, val_main_v24 (F := Ideal) x0 x2 x3 x4 (ix2 s j) = (μ s j : EReal))

theorem gather_at {α : Type} (x : S16x64.Idx → α) (idx : IVec S32768x1 32) (r : Fin 32768) (j : Fin 64) (s : Fin 16)
    (h : idx (ix2 r 0) = BitVec.ofNat 32 s.val) :
    Host.gather gather_S16x64_S32768x1_S32768x64_1_0_n_n_0_1_164 x idx (ix2 r j) = x (ix2 s j) :=
  Routing.gather_row gather_S16x64_S32768x1_S32768x64_1_0_n_n_0_1_164 rfl rfl rfl rfl rfl x idx r j s h (by decide)

theorem scatter_at (x : FVec Ideal S16x64 .f32) (idx : IVec S32768x1 32) (upd : FVec Ideal S32768x64 .f32) (f : Fin 32768 → Fin 64 → ℝ)
    (hx : ∀ i, x i = (0 : EReal)) (hi : ∀ r, (idx (ix2 r 0)).toInt = (seg cu r).val) (hu : ∀ r j, upd (ix2 r j) = (f r j : EReal))
    (s : Fin 16) (j : Fin 64) :
    Host.scatterAdd scatter_S16x64_S32768x1_S32768x64_1_0_0_1 x idx upd (ix2 s j) = (segSum (seg cu) s fun r => f r j : EReal) := by
  refine (Cert.Rows.scatterAdd_row scatter_S16x64_S32768x1_S32768x64_1_0_0_1 rfl rfl rfl rfl x idx upd s j).trans ?_
  rw [hx, zero_add]
  unfold segSum
  rw [coe_sum]
  refine Finset.sum_congr rfl fun r _ => ?_
  rw [hi, hu]
  by_cases h : seg cu r = s
  · rw [if_pos (by rw [h]), if_pos h]
  · rw [if_neg fun e => h (Fin.ext (by omega)), if_neg h]
    rfl

/-- A sum over all of an array of numbers. -/
theorem total {n0 n1 : Nat} (x : (⟨2, ![n0, n1]⟩ : Shape).Idx → EReal) (f : Fin n0 → Fin n1 → ℝ) (z : EReal) (hz : z = ((0 : ℝ) : EReal))
    (h : ∀ a c, x (ix2 a c) = (f a c : EReal)) : z + ∑ i, x i = ((∑ a, ∑ c, f a c : ℝ) : EReal) := by
  rw [hz, EReal.coe_zero, zero_add, sum_idx2, coe_sum]
  refine Finset.sum_congr rfl fun a _ => ?_
  rw [coe_sum]
  exact Finset.sum_congr rfl fun c _ => h a c

theorem finish (A B C D : ℝ) : FloatOps.hostDivf (F := Ideal) (φ := .f32) (FloatOps.subf (F := Ideal) (φ := .f32)
      (FloatOps.addf (F := Ideal) (φ := .f32) (A : EReal) (B : EReal)) (FloatOps.addf (F := Ideal) (φ := .f32) (C : EReal) (D : EReal)))
      ((32768 : ℝ) : EReal)
    = (((A + B - (C + D)) / 32768 : ℝ) : EReal) := by
  show Ideal.div (((A : EReal) + (B : EReal)) - ((C : EReal) + (D : EReal))) ((32768 : ℝ) : EReal) = _
  rw [← EReal.coe_add, ← EReal.coe_add, ← EReal.coe_sub, div_coe (by norm_num)]

section Sums

include hT hcu hB

theorem v41_at (s : Fin 16) (j : Fin 64) : val_main_v41 (F := Ideal) x1 x2 (ix2 s j) = (rt (seg cu) T s j : EReal) := by
  unfold val_main_v41
  exact scatter_at _ _ _ T (fun i => word_zero) (v40_at hcu hB) hT s j

theorem v48_at (r : Fin 32768) (j : Fin 64) : val_main_v48 (F := Ideal) x1 x2 (ix2 r j) = (rt (seg cu) T (seg cu r) j : EReal) := by
  unfold val_main_v48
  rw [gather_at _ _ r j (seg cu r) (v47_at hcu hB r), v41_at hT hcu hB]

include h0

theorem v55_at (r : Fin 32768) (j : Fin 64) :
    val_main_v55 (F := Ideal) x1 x2 (ix2 r j) = (share (T r j) (rt (seg cu) T (seg cu r) j) : EReal) := by
  rw [val_main_v55_apply, val_main_v53_apply, val_main_v50_apply, val_main_v52_apply, val_main_v54_apply, v48_at hT hcu hB, hT]
  show Scalar.select (IntOp.andi (Ideal.cmp .oeq (T r j : EReal) (Ideal.ofBits .f32 0x00000000#32))
      (Ideal.cmp .oeq (rt (seg cu) T (seg cu r) j : EReal) (Ideal.ofBits .f32 0x00000000#32)))
    (Ideal.ofBits .f32 0x3F800000#32) (Ideal.div (T r j : EReal) (rt (seg cu) T (seg cu r) j : EReal)) = _
  rw [word_zero, word_one, oeq_coe, oeq_coe]
  unfold share
  by_cases hR : rt (seg cu) T (seg cu r) j = 0
  · have ht : T r j = 0 := eq_zero_of_rt (seg cu) T h0 (seg cu r) j (by rw [hR]; exact lt_irrefl _) r rfl
    rw [if_pos ⟨ht, hR⟩, ht, hR]
    simp [Scalar.select, IntOp.andi]
  · rw [if_neg fun h => hR h.2, div_coe hR, decide_eq_false hR]
    by_cases ht : T r j = 0 <;> simp [Scalar.select, IntOp.andi, ht]

theorem share_nonneg (r : Fin 32768) (j : Fin 64) : 0 ≤ share (T r j) (rt (seg cu) T (seg cu r) j) := by
  unfold share
  split
  · exact zero_le_one
  · exact div_nonneg (h0 r j) (rt_nonneg (seg cu) T h0 _ j)

theorem v58_at (r : Fin 32768) (j : Fin 64) :
    val_main_v58 (F := Ideal) x1 x2 (ix2 r j) = ((share (T r j) (rt (seg cu) T (seg cu r) j)
      - share (T r j) (rt (seg cu) T (seg cu r) j) * Real.log (share (T r j) (rt (seg cu) T (seg cu r) j)) : ℝ) : EReal) := by
  rw [val_main_v58_apply, val_main_v57_apply, val_main_v56_apply, v55_at hT hcu hB h0]
  show (share (T r j) (rt (seg cu) T (seg cu r) j) : EReal)
    - (share (T r j) (rt (seg cu) T (seg cu r) j) : EReal) * Ideal.log (share (T r j) (rt (seg cu) T (seg cu r) j) : EReal) = _
  rw [mul_log_coe (share_nonneg hT hcu hB h0 r j)]
  exact (EReal.coe_sub _ _).symm

theorem v64_at (s : Fin 16) (j : Fin 64) :
    val_main_v64 (F := Ideal) x1 x2 (ix2 s j)
      = ((rt (seg cu) T s j - rt (seg cu) T s j * Real.log (rt (seg cu) T s j + eps) : ℝ) : EReal) := by
  rw [val_main_v64_apply, val_main_v63_apply, val_main_v62_apply, val_main_v61_apply, v41_at hT hcu hB]
  show (rt (seg cu) T s j : EReal) - (rt (seg cu) T s j : EReal) * Ideal.log ((rt (seg cu) T s j : EReal) + Ideal.ofBits .f32 0x322BCC77#32) = _
  rw [word_eps, ← EReal.coe_add, log_coe (add_pos_of_nonneg_of_pos (rt_nonneg (seg cu) T h0 s j) eps_pos), ← EReal.coe_mul]
  exact (EReal.coe_sub _ _).symm

end Sums

section Likelihood

include hX hW hb hcu hB hμ

theorem v36_at (s : Fin 16) (j : Fin 64) : val_main_v36 (F := Ideal) x0 x2 x3 x4 (ix2 s j)
    = (segSum (seg cu) s fun r => Real.exp (pred X W b r j - μ (seg cu r) j) : EReal) := by
  unfold val_main_v36
  refine scatter_at _ _ _ (fun r j => Real.exp (pred X W b r j - μ (seg cu r) j)) (fun i => word_zero) (v35_at hcu hB) (fun r j => ?_) s j
  rw [val_main_v33_apply, val_main_v32_apply, v14_at hX hW hb]
  have e : val_main_v31 (F := Ideal) x0 x2 x3 x4 (ix2 r j) = (μ (seg cu r) j : EReal) := by
    unfold val_main_v31
    rw [gather_at _ _ r j (seg cu r) (v30_at hcu hB r), hμ]
  rw [e]
  show Ideal.exp ((pred X W b r j : EReal) - (μ (seg cu r) j : EReal)) = _
  rw [← EReal.coe_sub, exp_coe]

theorem v38_at (s : Fin 16) (j : Fin 64) : val_main_v38 (F := Ideal) x0 x2 x3 x4 (ix2 s j) = (lse (seg cu) (pred X W b) μ s j : EReal) := by
  rw [val_main_v38_apply, val_main_v37_apply, hμ, v36_at hX hW hb hcu hB hμ]
  show (μ s j : EReal) + Ideal.log (segSum (seg cu) s fun r => Real.exp (pred X W b r j - μ (seg cu r) j) : EReal) = _
  rw [log_coe (segSum_exp_pos (seg cu) (seg_surjective hB) s fun r => pred X W b r j - μ (seg cu r) j)]
  exact (EReal.coe_add _ _).symm

theorem v74_at (r : Fin 32768) (j : Fin 64) : val_main_v74 (F := Ideal) x0 x2 x3 x4 (ix2 r j)
    = ((pred X W b r j - lse (seg cu) (pred X W b) μ (seg cu r) j : ℝ) : EReal) := by
  rw [val_main_v74_apply, v14_at hX hW hb]
  have e : val_main_v73 (F := Ideal) x0 x2 x3 x4 (ix2 r j) = (lse (seg cu) (pred X W b) μ (seg cu r) j : EReal) := by
    unfold val_main_v73
    rw [gather_at _ _ r j (seg cu r) (v72_at hcu hB r), v38_at hX hW hb hcu hB hμ]
  rw [e]
  exact (EReal.coe_sub _ _).symm

include hT h0

theorem v77_at (r : Fin 32768) (j : Fin 64) : val_main_v77 (F := Ideal) x0 x1 x2 x3 x4 (ix2 r j)
    = ((Real.exp (pred X W b r j - lse (seg cu) (pred X W b) μ (seg cu r) j)
      - share (T r j) (rt (seg cu) T (seg cu r) j) * (pred X W b r j - lse (seg cu) (pred X W b) μ (seg cu r) j) : ℝ) : EReal) := by
  rw [val_main_v77_apply, val_main_v75_apply, val_main_v76_apply, v74_at hX hW hb hcu hB hμ, v55_at hT hcu hB h0]
  show Ideal.exp ((pred X W b r j - lse (seg cu) (pred X W b) μ (seg cu r) j : ℝ) : EReal) - (share (T r j) (rt (seg cu) T (seg cu r) j) : EReal) * ((pred X W b r j - lse (seg cu) (pred X W b) μ (seg cu r) j : ℝ) : EReal) = _
  rw [exp_coe, ← EReal.coe_mul]
  exact (EReal.coe_sub _ _).symm

theorem v81_at (s : Fin 16) (j : Fin 64) : val_main_v81 (F := Ideal) x0 x1 x2 x3 x4 (ix2 s j)
    = ((Real.exp (lse (seg cu) (pred X W b) μ s j) - rt (seg cu) T s j * lse (seg cu) (pred X W b) μ s j : ℝ) : EReal) := by
  rw [val_main_v81_apply, val_main_v79_apply, val_main_v80_apply, v38_at hX hW hb hcu hB hμ, v41_at hT hcu hB]
  show Ideal.exp (lse (seg cu) (pred X W b) μ s j : EReal) - (rt (seg cu) T s j : EReal) * (lse (seg cu) (pred X W b) μ s j : EReal) = _
  rw [exp_coe, ← EReal.coe_mul]
  exact (EReal.coe_sub _ _).symm

theorem v85_at (i : S_.Idx) : val_main_v85 (F := Ideal) x0 x1 x2 x3 x4 i
    = (refValue (seg cu) T (pred X W b) μ eps 32768 : EReal) := by
  rw [val_main_v85_apply, val_main_v84_apply, val_main_v83_apply, val_main_v66_apply, val_main_v78_apply, val_main_v82_apply,
    val_main_v59_apply, val_main_v65_apply]
  have e78 := total (val_main_v77 (F := Ideal) x0 x1 x2 x3 x4) _ (val_main_cst_16 (F := Ideal) (Shape.Idx.first h_S_)) word_zero
    (v77_at hX hT hW hb hcu hB h0 hμ)
  have e82 := total (val_main_v81 (F := Ideal) x0 x1 x2 x3 x4) _ (val_main_cst_17 (F := Ideal) (Shape.Idx.first h_S_)) word_zero
    (v81_at hX hT hW hb hcu hB h0 hμ)
  have e59 := total (val_main_v58 (F := Ideal) x1 x2) _ (val_main_cst_11 (F := Ideal) (Shape.Idx.first h_S_)) word_zero
    (v58_at hT hcu hB h0)
  have e65 := total (val_main_v64 (F := Ideal) x1 x2) _ (val_main_cst_13 (F := Ideal) (Shape.Idx.first h_S_)) word_zero
    (v64_at hT hcu hB h0)
  rw [e78, e82, e59, e65, show val_main_cst_18 (F := Ideal) i = ((32768 : ℝ) : EReal) from word_rows]
  exact finish _ _ _ _

end Likelihood

end Cert.ReferenceIdeal.Read
-- ==== Proof.Bound.lean ====
/-
  The distance over the reals between the value with a small number inside the logarithm of the shares and the value
  without it.
-/
module

public import proofs.«01_k».proof.Proof.Equation

@[expose] public section

noncomputable section

open Finset

namespace Cert.Math

/-- A small number added inside `p log p` raises it by no more than itself. -/
theorem gap {p e : ℝ} (hp : 0 ≤ p) (he : 0 ≤ e) : 0 ≤ p * Real.log (p + e) - p * Real.log p ∧ p * Real.log (p + e) - p * Real.log p ≤ e := by
  rcases hp.lt_or_eq with h | h
  · have hq : 0 < (p + e) / p := div_pos (by linarith) h
    have hl : Real.log (p + e) - Real.log p = Real.log ((p + e) / p) := (Real.log_div (by linarith) h.ne').symm
    have e1 : p * ((p + e) / p - 1) = e := by field_simp; ring
    rw [← mul_sub, hl]
    constructor
    · exact mul_nonneg hp (Real.log_nonneg (by rw [le_div_iff₀ h]; linarith))
    · calc p * Real.log ((p + e) / p) ≤ p * ((p + e) / p - 1) := mul_le_mul_of_nonneg_left (Real.log_le_sub_one_of_pos hq) hp
        _ = e := e1
  · rw [← h]
    simpa using he

variable {ι κ γ : Type} [Fintype ι] [Fintype κ] [DecidableEq κ] [Fintype γ]
variable (seg : ι → κ) (T P : ι → γ → ℝ)

/-- The reference's value with `e` inside the logarithm of the shares. -/
def litValue (μ : κ → γ → ℝ) (e eps d : ℝ) : ℝ :=
  ((∑ r, ∑ c, (Real.exp (P r c - lse seg P μ (seg r) c) - share (T r c) (rt seg T (seg r) c) * (P r c - lse seg P μ (seg r) c))
      + ∑ s, ∑ c, (Real.exp (lse seg P μ s c) - rt seg T s c * lse seg P μ s c))
    - (∑ r, ∑ c, (share (T r c) (rt seg T (seg r) c) - share (T r c) (rt seg T (seg r) c) * Real.log (share (T r c) (rt seg T (seg r) c) + e))
      + ∑ s, ∑ c, (rt seg T s c - rt seg T s c * Real.log (rt seg T s c + eps)))) / d

/-- The two values lie within `e` for each row and column, over `d`. -/
theorem lit_bound (hT : ∀ r c, 0 ≤ T r c) (μ : κ → γ → ℝ) {e d : ℝ} (eps : ℝ) (he : 0 ≤ e) (hd : 0 < d) :
    refValue seg T P μ eps d ≤ litValue seg T P μ e eps d
      ∧ litValue seg T P μ e eps d ≤ refValue seg T P μ eps d + (Fintype.card ι : ℝ) * Fintype.card γ * e / d := by
  have hs : ∀ r c, 0 ≤ share (T r c) (rt seg T (seg r) c) := fun r c => by
    unfold share
    split
    · exact zero_le_one
    · exact div_nonneg (hT r c) (rt_nonneg seg T hT _ c)
  have lo : ∑ r, ∑ c, (share (T r c) (rt seg T (seg r) c) - share (T r c) (rt seg T (seg r) c) * Real.log (share (T r c) (rt seg T (seg r) c) + e))
      ≤ ∑ r, ∑ c, (share (T r c) (rt seg T (seg r) c) - share (T r c) (rt seg T (seg r) c) * Real.log (share (T r c) (rt seg T (seg r) c))) :=
    sum_le_sum fun r _ => sum_le_sum fun c _ => by linarith [(gap (hs r c) he).1]
  have hi : ∑ r, ∑ c, (share (T r c) (rt seg T (seg r) c) - share (T r c) (rt seg T (seg r) c) * Real.log (share (T r c) (rt seg T (seg r) c)))
      ≤ ∑ r, ∑ c, (share (T r c) (rt seg T (seg r) c) - share (T r c) (rt seg T (seg r) c) * Real.log (share (T r c) (rt seg T (seg r) c) + e))
        + (Fintype.card ι : ℝ) * Fintype.card γ * e := by
    have h : ∑ _r : ι, ∑ _c : γ, e = (Fintype.card ι : ℝ) * Fintype.card γ * e := by
      simp only [sum_const, card_univ, nsmul_eq_mul]; ring
    rw [← h, ← sum_add_distrib]
    refine sum_le_sum fun r _ => ?_
    rw [← sum_add_distrib]
    exact sum_le_sum fun c _ => by linarith [(gap (hs r c) he).2]
  unfold refValue litValue
  rw [← add_div]
  exact ⟨div_le_div_of_nonneg_right (by linarith) hd.le, div_le_div_of_nonneg_right (by linarith) hd.le⟩

end Cert.Math

end
-- ==== Proof.Within.lean ====
/-
  The postcondition `within` read back: the result lies at most `64 * eps` below the value with every small number kept.
-/
module

public import proofs.«01_k».proof.Post_within
public import proofs.«01_k».proof.Proof.Result
public import proofs.«01_k».proof.Proof.Bound

@[expose] public section

noncomputable section

open Idealize.ShloMosaic Idealize.ShloMosaic.TcCoe Idealize.SL.Sem

namespace Cert.ReferenceIdeal.Read

open Cert.ReferenceIdeal Cert.ReferenceIdeal.Gen Cert.Segment Cert.Scalars Cert.Math Idealize.ShloMosaic.ValueIdx

section Arrays

variable (x0 : FVec Ideal S32768x1024 .f32) (x1 : FVec Ideal S32768x64 .f32) (x2 : IVec S17 32) (x3 : FVec Ideal S64x1024 .f32)
  (x4 : FVec Ideal S64 .f32)

/-- The shares, each with the small number added. -/
def raised : FVec Ideal S32768x64 .f32 :=
  addf (val_main_v55 (F := Ideal) x1 x2) (broadcastInDim S32768x64 ![] bcast_S_S32768x64 (constant S_ .f32 0x322BCC77#32))

/-- What a row and column add to the deviance of the shares, with the small number inside the logarithm. -/
def litDev : FVec Ideal S32768x64 .f32 :=
  subf (val_main_v55 (F := Ideal) x1 x2) (mulf (val_main_v55 (F := Ideal) x1 x2) (Host.log (raised x1 x2)))

/-- Both deviances. -/
def litDevs : FVec Ideal S_ .f32 :=
  addf (Host.reduceAdd (litDev x1 x2) (constant S_ .f32 0x00000000#32) reducesTo_S32768x64_S_d0_1 h_S_) (val_main_v65 (F := Ideal) x1 x2)

/-- The value with every small number kept. -/
def lit : FVec Ideal S_ .f32 :=
  Host.divf (subf (val_main_v83 (F := Ideal) x0 x1 x2 x3 x4) (litDevs x1 x2)) (constant S_ .f32 0x47000000#32)

/-- The comparisons the postcondition makes. -/
def inside (o full : FVec Ideal S_ .f32) : IVec S_ 1 :=
  andi (cmpf .ole o full) (cmpf .ole full (addf o (constant S_ .f32 0x352BCC77#32)))

variable [Cert.Post_within.Facts] (o : FVec Ideal S_ .f32)

theorem part4_eq : Cert.Post_within.fn_part4 (F := Ideal) o (val_main_v38 (F := Ideal) x0 x2 x3 x4) (val_main_v41 (F := Ideal) x1 x2)
    (val_main_v55 (F := Ideal) x1 x2) (litDevs x1 x2) (val_main_v74 (F := Ideal) x0 x2 x3 x4) = inside o (lit x0 x1 x2 x3 x4) := rfl

theorem part3_eq : Cert.Post_within.fn_part3 (F := Ideal) o (val_main_v9 (F := Ideal) x2) (val_main_v14 (F := Ideal) x0 x3 x4)
    (val_main_v38 (F := Ideal) x0 x2 x3 x4) (val_main_v41 (F := Ideal) x1 x2) (val_main_v55 (F := Ideal) x1 x2) (raised x1 x2)
    = inside o (lit x0 x1 x2 x3 x4) := part4_eq x0 x1 x2 x3 x4 o

theorem part2_eq : Cert.Post_within.fn_part2 (F := Ideal) x1 o (val_main_v9 (F := Ideal) x2) (val_main_v14 (F := Ideal) x0 x3 x4)
    (val_main_v38 (F := Ideal) x0 x2 x3 x4) (val_main_v39 (F := Ideal)) = inside o (lit x0 x1 x2 x3 x4) := part3_eq x0 x1 x2 x3 x4 o

theorem part1_eq : Cert.Post_within.fn_part1 (F := Ideal) x1 o (val_main_v9 (F := Ideal) x2) (val_main_v14 (F := Ideal) x0 x3 x4)
    (val_main_v21 (F := Ideal) x2) = inside o (lit x0 x1 x2 x3 x4) := part2_eq x0 x1 x2 x3 x4 o

theorem post_eq : Cert.Post_within.fn (F := Ideal) x0 x1 x2 x3 x4 o = inside o (lit x0 x1 x2 x3 x4) := part1_eq x0 x1 x2 x3 x4 o

end Arrays

theorem word_span : Ideal.ofBits .f32 0x352BCC77#32 = ((64 * eps : ℝ) : EReal) := by
  have h : Ideal.ofBits .f32 0x352BCC77#32 = ((64 : ℝ) : EReal) * Ideal.ofBits .f32 0x322BCC77#32 := by
    simp only [Ideal.ofBits, Ideal.ieee]
    simp [-EReal.coe_mul, ← EReal.coe_mul]
    norm_num
  rw [h, word_eps, ← EReal.coe_mul]

theorem ole_coe {x y : ℝ} (h : x ≤ y) : Ideal.cmp .ole (x : EReal) (y : EReal) = 1#1 := by
  unfold Ideal.cmp; simp [h]

/-- The comparisons hold of a result that lies so. -/
theorem inside_of {o full : FVec Ideal S_ .f32} {a z : ℝ} (ha : ∀ i, o i = (a : EReal)) (hz : ∀ i, full i = (z : EReal)) (h1 : a ≤ z)
    (h2 : z ≤ a + 64 * eps) : inside o full = fun _ => 1#1 := by
  funext i
  show IntOp.andi (Ideal.cmp .ole (o i) (full i)) (Ideal.cmp .ole (full i) (o i + Ideal.ofBits .f32 0x352BCC77#32)) = 1#1
  rw [ha, hz, word_span, ← EReal.coe_add, ole_coe h1, ole_coe h2]
  rfl

section Value

variable {x0 : FVec Ideal S32768x1024 .f32} {x1 : FVec Ideal S32768x64 .f32} {x2 : IVec S17 32} {x3 : FVec Ideal S64x1024 .f32}
  {x4 : FVec Ideal S64 .f32}
  {X : Fin 32768 → Fin 1024 → ℝ} {T : Fin 32768 → Fin 64 → ℝ} {cu : Fin 17 → BitVec 32} {W : Fin 64 → Fin 1024 → ℝ} {b : Fin 64 → ℝ}
  {μ : Fin 16 → Fin 64 → ℝ}
  (hX : ∀ r d, x0 (ix2 r d) = (X r d : EReal)) (hT : ∀ r j, x1 (ix2 r j) = (T r j : EReal))
  (hW : ∀ j d, x3 (ix2 j d) = (W j d : EReal)) (hb : ∀ j, x4 (ix1 j) = (b j : EReal))
  (hcu : ∀ k, x2 (ix1 k) = cu k) (hB : Bounds cu) (h0 : ∀ r j, 0 ≤ T r j)
  (hμ : ∀ s j, val_main_v24 (F := Ideal) x0 x2 x3 x4 (ix2 s j) = (μ s j : EReal))

include hT hcu hB h0

theorem litDev_at (r : Fin 32768) (j : Fin 64) :
    litDev x1 x2 (ix2 r j) = ((share (T r j) (rt (seg cu) T (seg cu r) j)
      - share (T r j) (rt (seg cu) T (seg cu r) j) * Real.log (share (T r j) (rt (seg cu) T (seg cu r) j) + eps) : ℝ) : EReal) := by
  show val_main_v55 (F := Ideal) x1 x2 (ix2 r j)
    - val_main_v55 (F := Ideal) x1 x2 (ix2 r j) * Ideal.log (val_main_v55 (F := Ideal) x1 x2 (ix2 r j) + Ideal.ofBits .f32 0x322BCC77#32) = _
  rw [v55_at hT hcu hB h0, word_eps, ← EReal.coe_add, log_coe (add_pos_of_nonneg_of_pos (share_nonneg hT hcu hB h0 r j) eps_pos), ← EReal.coe_mul]
  exact (EReal.coe_sub _ _).symm

theorem litDev_sum (i : S_.Idx) :
    Host.reduceAdd (litDev x1 x2) (constant (F := Ideal) S_ .f32 0x00000000#32) reducesTo_S32768x64_S_d0_1 h_S_ i
      = ((∑ r, ∑ j, (share (T r j) (rt (seg cu) T (seg cu r) j)
        - share (T r j) (rt (seg cu) T (seg cu r) j) * Real.log (share (T r j) (rt (seg cu) T (seg cu r) j) + eps)) : ℝ) : EReal) := by
  refine Eq.trans ?_ (total (litDev x1 x2) _ (Ideal.ofBits .f32 0x00000000#32) word_zero (litDev_at hT hcu hB h0))
  generalize litDev x1 x2 = y0
  simp only [Host.reduceAdd, Ideal.hostReduceAdd_def]
  exact Ideal.hostReduceAdd_total reducesTo_S32768x64_S_d0_1 (fun b => b.elim0) y0 _ i

include hX hW hb hμ

theorem lit_at (i : S_.Idx) : lit x0 x1 x2 x3 x4 i = (litValue (seg cu) T (pred X W b) μ eps eps 32768 : EReal) := by
  have e78 := total (val_main_v77 (F := Ideal) x0 x1 x2 x3 x4) _ (val_main_cst_16 (F := Ideal) (Shape.Idx.first h_S_)) word_zero
    (v77_at hX hT hW hb hcu hB h0 hμ)
  have e82 := total (val_main_v81 (F := Ideal) x0 x1 x2 x3 x4) _ (val_main_cst_17 (F := Ideal) (Shape.Idx.first h_S_)) word_zero
    (v81_at hX hT hW hb hcu hB h0 hμ)
  have e65 := total (val_main_v64 (F := Ideal) x1 x2) _ (val_main_cst_13 (F := Ideal) (Shape.Idx.first h_S_)) word_zero
    (v64_at hT hcu hB h0)
  show FloatOps.hostDivf (F := Ideal) (φ := .f32) (FloatOps.subf (F := Ideal) (φ := .f32) (val_main_v83 (F := Ideal) x0 x1 x2 x3 x4 i)
    (FloatOps.addf (F := Ideal) (φ := .f32) (Host.reduceAdd (litDev x1 x2) (constant (F := Ideal) S_ .f32 0x00000000#32) reducesTo_S32768x64_S_d0_1 h_S_ i)
      (val_main_v65 (F := Ideal) x1 x2 i))) (Ideal.ofBits .f32 0x47000000#32) = _
  rw [val_main_v83_apply, val_main_v78_apply, val_main_v82_apply, val_main_v65_apply, e78, e82, e65, litDev_sum hT hcu hB h0, word_rows]
  exact finish _ _ _ _

/-- The postcondition holds of the reference's value. -/
theorem post_of [Cert.Post_within.Facts] (o : FVec Ideal S_ .f32)
    (ho : ∀ i, o i = (refValue (seg cu) T (pred X W b) μ eps 32768 : EReal)) :
    Cert.Post_within.fn (F := Ideal) x0 x1 x2 x3 x4 o = fun _ => 1#1 := by
  rw [post_eq]
  have h := lit_bound (seg cu) T (pred X W b) h0 μ eps (e := eps) (d := 32768) eps_pos.le (by norm_num)
  refine inside_of ho (lit_at hX hT hW hb hcu hB h0 hμ) h.1 (h.2.trans (le_of_eq ?_))
  rw [Fintype.card_fin, Fintype.card_fin]
  norm_num
  ring

end Value

end Cert.ReferenceIdeal.Read

end
-- ==== Proof.lean ====
/-
  The proof of `Cert.Claim`. The frames are the generated ones; the value claim puts together the kernel's value
  (`epi_eq` on `total_apply`), the reference's (`v85_at`), and the equation between the two (`value_eq`); the bound adds the distance to the value with every small
  number kept (`post_of`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Gen.ReferenceIdeal.Read
public import proofs.«01_k».proof.Proof.Gen.Pre_ragged
public import proofs.«01_k».proof.Proof.Gen.Post_within
public import proofs.«01_k».proof.Proof.Epilogue
public import proofs.«01_k».proof.Proof.Result
public import proofs.«01_k».proof.Proof.Within
public import Idealize.ShloMosaic.Adequacy
public import Idealize.ShloMosaic.Init

@[expose] public section

noncomputable section

namespace Cert.Proof

open Idealize.ShloMosaic Idealize.ShloMosaic.TcCoe Idealize.ShloMosaic.ValueIdx Idealize.SL.Sem

theorem ok_kernel (m : (ℓ : Loc Cert.Kernel.nD Cert.Kernel.τ Cert.Kernel.sig) → Buf (Elt Bits) ℓ) : Cert.Kernel.Gen.Ok m := by
  unfold Cert.Kernel.Gen.Ok
  trivial

theorem frame_p : Cert.quiescent_Kernel (hKernel := Cert.Kernel.Gen.facts) := fun m ρ _ => Cert.Kernel.Gen.frame m ρ (ok_kernel m)

theorem frame_pi : Cert.quiescent_KernelIdeal (hKernelIdeal := Cert.KernelIdeal.Gen.facts) := fun m ρ _ =>
  Cert.KernelIdeal.Gen.frame m ρ (Cert.KernelIdeal.Value.ok m)

theorem frame_ri : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- A value strictly between the infinities is a number. -/
theorem number {x : EReal} (h : x > ⊥ ∧ x < ⊤) : x = (x.toReal : EReal) := (EReal.coe_toReal h.2.ne h.1.ne').symm

/-- A value at least zero and below infinity is a number at least zero. -/
theorem number_nonneg {x : EReal} (h : x ≥ 0 ∧ x < ⊤) : x = (x.toReal : EReal) ∧ 0 ≤ x.toReal :=
  ⟨number ⟨lt_of_lt_of_le EReal.bot_lt_zero h.1, h.2⟩, EReal.toReal_nonneg h.1⟩

section Value

open Cert.KernelIdeal Cert.KernelIdeal.Gen Cert.KernelIdeal.Value Cert.Segment Cert.Math

/-- On arguments of the precondition the two programs end at one number. -/
theorem same (m : (ℓ : Loc nD τ sig) → Buf (Elt Ideal) ℓ) (c : Dev nD)
    (h : Cert.Pre_ragged.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4)) = fun _ => 1#1) :
    Cert.ReferenceIdeal.Read.val_main_v85 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      = result m (ok m) c := by
  obtain ⟨p0, p1, p3, p4, hB⟩ := Cert.Pre_ragged.decode _ _ _ _ _ h
  have hX := fun (r : Fin 32768) (d : Fin 1024) => number (p0 (ix2 r d))
  have hT := fun (r : Fin 32768) (j : Fin 64) => (number_nonneg (p1 (ix2 r j))).1
  have h0 := fun (r : Fin 32768) (j : Fin 64) => (number_nonneg (p1 (ix2 r j))).2
  have hW := fun (j : Fin 64) (d : Fin 1024) => number (p3 (ix2 j d))
  have hb := fun (j : Fin 64) => number (p4 (ix1 j))
  obtain ⟨μ, hμ⟩ := Cert.ReferenceIdeal.Read.v24_real hX hW hb (fun _ => rfl) hB
  funext i
  refine (Cert.ReferenceIdeal.Read.v85_at hX hT hW hb (fun _ => rfl) hB h0 hμ i).trans ?_
  rw [value_eq _ _ _ (seg_surjective hB) h0]
  have e : ((Fintype.card (Fin 16) : ℝ) * Fintype.card (Fin 64)) = 1024 := by
    rw [Fintype.card_fin, Fintype.card_fin]; norm_num
  rw [e]
  exact (epi_eq _ _ _ _ (total_apply m (ok m) c _ _ _ _ _ hX hT (fun _ => rfl) hW hb) (seg_surjective hB) h0 _).symm

/-- On arguments of the precondition the kernel's result lies within the postcondition's bounds. -/
theorem inside (m : (ℓ : Loc nD τ sig) → Buf (Elt Ideal) ℓ) (c : Dev nD)
    (h : Cert.Pre_ragged.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4)) = fun _ => 1#1) :
    Cert.Post_within.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (result m (ok m) c) = fun _ => 1#1 := by
  have hs := same m c h
  obtain ⟨p0, p1, p3, p4, hB⟩ := Cert.Pre_ragged.decode _ _ _ _ _ h
  have hX := fun (r : Fin 32768) (d : Fin 1024) => number (p0 (ix2 r d))
  have hT := fun (r : Fin 32768) (j : Fin 64) => (number_nonneg (p1 (ix2 r j))).1
  have h0 := fun (r : Fin 32768) (j : Fin 64) => (number_nonneg (p1 (ix2 r j))).2
  have hW := fun (j : Fin 64) (d : Fin 1024) => number (p3 (ix2 j d))
  have hb := fun (j : Fin 64) => number (p4 (ix1 j))
  obtain ⟨μ, hμ⟩ := Cert.ReferenceIdeal.Read.v24_real hX hW hb (fun _ => rfl) hB
  exact Cert.ReferenceIdeal.Read.post_of hX hT hW hb (fun _ => rfl) hB h0 hμ _ fun i =>
    (congrFun hs i).symm.trans (Cert.ReferenceIdeal.Read.v85_at hX hT hW hb (fun _ => rfl) hB h0 hμ i)

end Value

theorem algebraic : Cert.algebraic_KernelIdeal_ReferenceIdeal_pre_ragged (hKernelIdeal := Cert.KernelIdeal.Gen.facts)
    (hReferenceIdeal := Cert.ReferenceIdeal.Gen.facts) (hPre_ragged := Cert.Pre_ragged.Gen.facts) := by
  intro m ρ m' ρ' hpre hagree
  refine ⟨fun c => Cert.KernelIdeal.Value.result m (Cert.KernelIdeal.Value.ok m) c, Cert.KernelIdeal.Value.run m ρ (Cert.KernelIdeal.Value.ok m), ?_⟩
  refine (θ_run Cert.ReferenceIdeal.defs _ _).mono (fun r h c => ⟨(h c).1.trans ?_, (h c).2⟩) (Cert.ReferenceIdeal.Value.run (F := Ideal) m' ρ')
  rw [Cert.ReferenceIdeal.Read.val_main_v85_eq, (hagree c).1, (hagree c).2.1, (hagree c).2.2.1, (hagree c).2.2.2.1, (hagree c).2.2.2.2]
  exact same m c (hpre c)

theorem within : Cert.holds_KernelIdeal_within_pre_ragged (hKernelIdeal := Cert.KernelIdeal.Gen.facts)
    (hPre_ragged := Cert.Pre_ragged.Gen.facts) (hPost_within := Cert.Post_within.Gen.facts) := by
  intro m ρ hpre
  refine (θ_run Cert.KernelIdeal.defs _ _).mono (fun r h c => ?_) (Cert.KernelIdeal.Value.run m ρ (Cert.KernelIdeal.Value.ok m))
  obtain ⟨hv, a0, a1, a2, a3, a4⟩ := h c
  refine ⟨a0, a1, a2, a3, a4, ?_⟩
  rw [hv]
  exact inside m c (hpre c)

theorem claim : Cert.Claim := ⟨Cert.Kernel.Gen.facts, Cert.KernelIdeal.Gen.facts, Cert.ReferenceIdeal.Gen.facts, Cert.Pre_ragged.Gen.facts,
  Cert.Post_within.Gen.facts,
  frame_p, frame_pi, fun m ρ _ => frame_pi m ρ trivial, frame_ri, fun m ρ _ => frame_ri m ρ trivial, trivial, algebraic, within⟩

end Cert.Proof

end
